-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096x4096 : Shape := ⟨2, ![4096, 4096]⟩
abbrev S8x4096 : Shape := ⟨2, ![8, 4096]⟩
abbrev S4096x8 : Shape := ⟨2, ![4096, 8]⟩
abbrev S8192x8 : Shape := ⟨2, ![8192, 8]⟩
abbrev S1024x4096 : Shape := ⟨2, ![1024, 4096]⟩
abbrev S1024x8 : Shape := ⟨2, ![1024, 8]⟩
abbrev S8x8192 : Shape := ⟨2, ![8, 8192]⟩
abbrev S1x8192 : Shape := ⟨2, ![1, 8192]⟩
abbrev S2x8x256 : Shape := ⟨3, ![2, 8, 256]⟩
abbrev S2 : Shape := ⟨1, ![2]⟩
abbrev S2x1x256 : Shape := ⟨3, ![2, 1, 256]⟩
abbrev S1x8x256 : Shape := ⟨3, ![1, 8, 256]⟩
abbrev S8x256 : Shape := ⟨2, ![8, 256]⟩
abbrev S1 : Shape := ⟨1, ![1]⟩
abbrev S_ : Shape := ⟨0, ![]⟩
abbrev S1x16 : Shape := ⟨2, ![1, 16]⟩
abbrev S16 : Shape := ⟨1, ![16]⟩
abbrev S1x1x256 : Shape := ⟨3, ![1, 1, 256]⟩
abbrev S1x256 : Shape := ⟨2, ![1, 256]⟩
abbrev S8192x1 : Shape := ⟨2, ![8192, 1]⟩
abbrev S1024x512 : Shape := ⟨2, ![1024, 512]⟩
abbrev S512x4096 : Shape := ⟨2, ![512, 4096]⟩
abbrev S2x512x4096 : Shape := ⟨3, ![2, 512, 4096]⟩
abbrev S1x512x4096 : Shape := ⟨3, ![1, 512, 4096]⟩
abbrev S512x1 : Shape := ⟨2, ![512, 1]⟩
abbrev S512x512 : Shape := ⟨2, ![512, 512]⟩
abbrev S4096x512 : Shape := ⟨2, ![4096, 512]⟩
abbrev S2x4096x512 : Shape := ⟨3, ![2, 4096, 512]⟩
abbrev S1x4096x512 : Shape := ⟨3, ![1, 4096, 512]⟩

abbrev nBuf : Table → Nat
  | .hbm => 14
  | .local .tc .vmem => 25
  | .local .scVector .vmem => 2
  | _ => 0

abbrev bufTy : (tb : Table) → Fin (nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8x4096, .f32⟩
  | .hbm, ⟨4, _⟩ => ⟨S4096x4096, .f32⟩
  | .hbm, ⟨5, _⟩ => ⟨S4096x8, .f32⟩
  | .hbm, ⟨6, _⟩ => ⟨S4096x8, .bf16⟩
  | .hbm, ⟨7, _⟩ => ⟨S8192x4096, .bf16⟩
  | .hbm, ⟨8, _⟩ => ⟨S8192x8, .f32⟩
  | .hbm, ⟨9, _⟩ => ⟨S8x8192, .f32⟩
  | .hbm, ⟨10, _⟩ => ⟨S1x8192, .f32⟩
  | .hbm, ⟨11, _⟩ => ⟨S8192x1, .f32⟩
  | .hbm, ⟨12, _⟩ => ⟨S8192x4096, .bf16⟩
  | .hbm, ⟨13, _⟩ => ⟨S8192x4096, .f32⟩
  | .local .tc .vmem, ⟨0, _⟩ => ⟨S1024x4096, .f32⟩
  | .local .tc .vmem, ⟨1, _⟩ => ⟨S1024x4096, .f32⟩
  | .local .tc .vmem, ⟨2, _⟩ => ⟨S4096x8, .bf16⟩
  | .local .tc .vmem, ⟨3, _⟩ => ⟨S1024x4096, .bf16⟩
  | .local .tc .vmem, ⟨4, _⟩ => ⟨S1024x4096, .bf16⟩
  | .local .tc .vmem, ⟨5, _⟩ => ⟨S1024x8, .f32⟩
  | .local .tc .vmem, ⟨6, _⟩ => ⟨S1024x8, .f32⟩
  | .local .tc .vmem, ⟨7, _⟩ => ⟨S1024x4096, .bf16⟩
  | .local .tc .vmem, ⟨8, _⟩ => ⟨S1024x4096, .bf16⟩
  | .local .tc .vmem, ⟨9, _⟩ => ⟨S1024x512, .bf16⟩
  | .local .tc .vmem, ⟨10, _⟩ => ⟨S1024x512, .bf16⟩
  | .local .tc .vmem, ⟨11, _⟩ => ⟨S512x4096, .f32⟩
  | .local .tc .vmem, ⟨12, _⟩ => ⟨S2x512x4096, .bf16⟩
  | .local .tc .vmem, ⟨13, _⟩ => ⟨S512x4096, .bf16⟩
  | .local .tc .vmem, ⟨14, _⟩ => ⟨S512x4096, .bf16⟩
  | .local .tc .vmem, ⟨15, _⟩ => ⟨S512x4096, .bf16⟩
  | .local .tc .vmem, ⟨16, _⟩ => ⟨S512x4096, .bf16⟩
  | .local .tc .vmem, ⟨17, _⟩ => ⟨S512x1, .f32⟩
  | .local .tc .vmem, ⟨18, _⟩ => ⟨S512x1, .f32⟩
  | .local .tc .vmem, ⟨19, _⟩ => ⟨S512x512, .f32⟩
  | .local .tc .vmem, ⟨20, _⟩ => ⟨S512x512, .f32⟩
  | .local .tc .vmem, ⟨21, _⟩ => ⟨S512x4096, .f32⟩
  | .local .tc .vmem, ⟨22, _⟩ => ⟨S4096x512, .f32⟩
  | .local .tc .vmem, ⟨23, _⟩ => ⟨S2x512x4096, .bf16⟩
  | .local .tc .vmem, ⟨24, _⟩ => ⟨S2x4096x512, .bf16⟩
  | .local .scVector .vmem, ⟨0, _⟩ => ⟨S2x8x256, .f32⟩
  | .local .scVector .vmem, ⟨1, _⟩ => ⟨S2x1x256, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v3_scv : Ref sig .scVector := ⟨.hbm, 9, rfl⟩
abbrev main_v4_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_scratch0 : Ref sig .tc := ⟨.vmem, 11, rfl⟩
abbrev cc2_scratch1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_scratch0 : Ref sig .tc := ⟨.vmem, 21, rfl⟩
abbrev cc3_scratch1 : Ref sig .tc := ⟨.vmem, 22, rfl⟩
abbrev cc3_scratch2 : Ref sig .tc := ⟨.vmem, 23, rfl⟩
abbrev cc3_scratch3 : Ref sig .tc := ⟨.vmem, 24, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 11
abbrev cc2_sem0_1 : DmaSem sig := 12
abbrev cc2_sem1_0 : DmaSem sig := 13
abbrev cc2_sem1_1 : DmaSem sig := 14
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k1_off2 (i : grid1.Coords) : Fin 2 → Nat :=
  let c0_i32_22_r0 : BitVec 32 := 0#32
  let c256_i32_r0 : BitVec 32 := 256#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c256_i32_r0 v7_r0
  ![0, v21_r0.toNat]
def k1_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k1_cond1 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let true_56_r0 : BitVec 1 := 1#1
  let v50_r0 : BitVec 1 := Scalar.andi v49_r0 true_56_r0
  let v51_r0 : BitVec 32 := Scalar.extui v50_r0
  let c0_i32_57_r0 : BitVec 32 := 0#32
  let v52_r0 : BitVec 1 := Scalar.cmpi .ne v51_r0 c0_i32_57_r0
  v52_r0

def k1_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_122_r0 : BitVec 32 := 2#32
  let v135_r0 : BitVec 32 := Scalar.remui v30_r0 c2_i32_122_r0
  let c0_i32_124_r0 : BitVec 32 := 0#32
  let c0_i32_125_r0 : BitVec 32 := 0#32
  ![v135_r0.toNat, 0, 0]
def k1_off5 (i : grid1.Coords) : Fin 2 → Nat :=
  let c0_i32_126_r0 : BitVec 32 := 0#32
  let c256_i32_123_r0 : BitVec 32 := 256#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v136_r0 : BitVec 32 := Scalar.muli c256_i32_123_r0 v41_r0
  ![0, v136_r0.toNat]
def k1_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_122_r0 : BitVec 32 := 2#32
  let v135_r0 : BitVec 32 := Scalar.remui v30_r0 c2_i32_122_r0
  ![v135_r0.toNat]
def k1_cond2 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v60_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v61_r0 : BitVec 1 := Scalar.ori v60_r0 v31_r0
  let c0_i32_62_r0 : BitVec 32 := 0#32
  let v62_r0 : BitVec 1 := Scalar.cmpi .sge c0_i32_32_r0 c0_i32_62_r0
  let v63_r0 : BitVec 1 := Scalar.andi v61_r0 v62_r0
  let v64_r0 : BitVec 32 := Scalar.extui v63_r0
  let c0_i32_63_r0 : BitVec 32 := 0#32
  let v65_r0 : BitVec 1 := Scalar.cmpi .ne v64_r0 c0_i32_63_r0
  v65_r0

def k1_off7 : Fin 3 → Nat :=
  let c0_i32_28_r0 : BitVec 32 := 0#32
  let c2_i32_123_r0 : BitVec 32 := 2#32
  let v136_r0 : BitVec 32 := Scalar.remui c0_i32_28_r0 c2_i32_123_r0
  let c0_i32_124_r0 : BitVec 32 := 0#32
  let c0_i32_125_r0 : BitVec 32 := 0#32
  ![v136_r0.toNat, 0, 0]
def k1_off8 (i : grid1.Coords) : Fin 2 → Nat :=
  let c0_i32_126_r0 : BitVec 32 := 0#32
  let c256_i32_122_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c256_i32_122_r0 v33_r0
  ![0, v135_r0.toNat]
def k1_off9 : Fin 1 → Nat :=
  let c0_i32_28_r0 : BitVec 32 := 0#32
  let c2_i32_123_r0 : BitVec 32 := 2#32
  let v136_r0 : BitVec 32 := Scalar.remui c0_i32_28_r0 c2_i32_123_r0
  ![v136_r0.toNat]
@[reducible] def k1_t1_loop : Scf.Loop 32 :=
  let c0_i32_68_r0 : BitVec 32 := 0#32
  let c16_i32_69_r0 : BitVec 32 := 16#32
  let v74_r0 : BitVec 32 := Scalar.addi c0_i32_68_r0 c16_i32_69_r0
  let c1_i32_70_r0 : BitVec 32 := 1#32
  ⟨c0_i32_68_r0, v74_r0, c1_i32_70_r0⟩
def k1_off10 : Fin 3 → Nat :=
  let c0_i32_28_r0 : BitVec 32 := 0#32
  let c2_i32_66_r0 : BitVec 32 := 2#32
  let v72_r0 : BitVec 32 := Scalar.remui c0_i32_28_r0 c2_i32_66_r0
  let c0_i32_125_r0 : BitVec 32 := 0#32
  let c0_i32_126_r0 : BitVec 32 := 0#32
  ![v72_r0.toNat, 0, 0]
def k1_off11 (k1_t1 : Fin k1_t1_loop.trips) : Fin 2 → Nat :=
  let c0_i32_124_r0 : BitVec 32 := 0#32
  let v139_r0 : Index := Scalar.indexCast c0_i32_124_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v140_r0 : Index := Scalar.indexCast v136_r0
  ![0, v140_r0.toNat]
def k1_off12 (k1_t1 : Fin k1_t1_loop.trips) : Fin 2 → Nat :=
  let c1_i32_127_r0 : BitVec 32 := 1#32
  let v145_r0 : Index := Scalar.indexCast c1_i32_127_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v146_r0 : Index := Scalar.indexCast v136_r0
  ![1, v146_r0.toNat]
def k1_off13 (k1_t1 : Fin k1_t1_loop.trips) : Fin 2 → Nat :=
  let c2_i32_130_r0 : BitVec 32 := 2#32
  let v153_r0 : Index := Scalar.indexCast c2_i32_130_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v154_r0 : Index := Scalar.indexCast v136_r0
  ![2, v154_r0.toNat]
def k1_off14 (k1_t1 : Fin k1_t1_loop.trips) : Fin 2 → Nat :=
  let c3_i32_r0 : BitVec 32 := 3#32
  let v162_r0 : Index := Scalar.indexCast c3_i32_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v163_r0 : Index := Scalar.indexCast v136_r0
  ![3, v163_r0.toNat]
def k1_off15 (k1_t1 : Fin k1_t1_loop.trips) : Fin 2 → Nat :=
  let c4_i32_r0 : BitVec 32 := 4#32
  let v171_r0 : Index := Scalar.indexCast c4_i32_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v172_r0 : Index := Scalar.indexCast v136_r0
  ![4, v172_r0.toNat]
def k1_off16 (k1_t1 : Fin k1_t1_loop.trips) : Fin 2 → Nat :=
  let c5_i32_r0 : BitVec 32 := 5#32
  let v180_r0 : Index := Scalar.indexCast c5_i32_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v181_r0 : Index := Scalar.indexCast v136_r0
  ![5, v181_r0.toNat]
def k1_off17 (k1_t1 : Fin k1_t1_loop.trips) : Fin 2 → Nat :=
  let c6_i32_r0 : BitVec 32 := 6#32
  let v189_r0 : Index := Scalar.indexCast c6_i32_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v190_r0 : Index := Scalar.indexCast v136_r0
  ![6, v190_r0.toNat]
def k1_off18 (k1_t1 : Fin k1_t1_loop.trips) : Fin 2 → Nat :=
  let c7_i32_r0 : BitVec 32 := 7#32
  let v198_r0 : Index := Scalar.indexCast c7_i32_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v199_r0 : Index := Scalar.indexCast v136_r0
  ![7, v199_r0.toNat]
def k1_off19 : Fin 3 → Nat :=
  let c0_i32_29_r0 : BitVec 32 := 0#32
  let c2_i32_67_r0 : BitVec 32 := 2#32
  let v73_r0 : BitVec 32 := Scalar.remui c0_i32_29_r0 c2_i32_67_r0
  let c0_i32_144_r0 : BitVec 32 := 0#32
  let c0_i32_145_r0 : BitVec 32 := 0#32
  ![v73_r0.toNat, 0, 0]
def k1_off20 (k1_t1 : Fin k1_t1_loop.trips) : Fin 2 → Nat :=
  let c0_i32_143_r0 : BitVec 32 := 0#32
  let v208_r0 : Index := Scalar.indexCast c0_i32_143_r0
  let c0_i32_123_r0 : BitVec 32 := 0#32
  let c0_i32_68_r0 : BitVec 32 := 0#32
  let c1_i32_70_r0 : BitVec 32 := 1#32
  let arg4_r0 : BitVec 32 := Scf.iv c0_i32_68_r0 c1_i32_70_r0 k1_t1
  let c16_i32_122_r0 : BitVec 32 := 16#32
  let v135_r0 : BitVec 32 := Scalar.muli arg4_r0 c16_i32_122_r0
  let v136_r0 : BitVec 32 := Scalar.addi c0_i32_123_r0 v135_r0
  let v209_r0 : Index := Scalar.indexCast v136_r0
  ![0, v209_r0.toNat]
def k1_cond5 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v80_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v81_r0 : BitVec 1 := Scalar.ori v80_r0 v32_r0
  let v82_r0 : BitVec 32 := Scalar.extui v81_r0
  let c0_i32_73_r0 : BitVec 32 := 0#32
  let v83_r0 : BitVec 1 := Scalar.cmpi .ne v82_r0 c0_i32_73_r0
  v83_r0

def k1_off21 : Fin 3 → Nat :=
  let c0_i32_29_r0 : BitVec 32 := 0#32
  let c2_i32_122_r0 : BitVec 32 := 2#32
  let v135_r0 : BitVec 32 := Scalar.remui c0_i32_29_r0 c2_i32_122_r0
  let c0_i32_124_r0 : BitVec 32 := 0#32
  let c0_i32_125_r0 : BitVec 32 := 0#32
  ![v135_r0.toNat, 0, 0]
def k1_off22 (i : grid1.Coords) : Fin 2 → Nat :=
  let c0_i32_126_r0 : BitVec 32 := 0#32
  let c256_i32_123_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v136_r0 : BitVec 32 := Scalar.muli c256_i32_123_r0 v33_r0
  ![0, v136_r0.toNat]
def k1_off23 : Fin 1 → Nat :=
  let c0_i32_29_r0 : BitVec 32 := 0#32
  let c2_i32_122_r0 : BitVec 32 := 2#32
  let v135_r0 : BitVec 32 := Scalar.remui c0_i32_29_r0 c2_i32_122_r0
  ![v135_r0.toNat]
def k1_cond7 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_79_r0 : BitVec 1 := 1#1
  let v94_r0 : BitVec 1 := Scalar.xori v31_r0 true_79_r0
  let v95_r0 : BitVec 1 := Scalar.andi v93_r0 v94_r0
  let v96_r0 : BitVec 32 := Scalar.extui v95_r0
  let c0_i32_80_r0 : BitVec 32 := 0#32
  let v97_r0 : BitVec 1 := Scalar.cmpi .ne v96_r0 c0_i32_80_r0
  v97_r0

def k1_off24 : Fin 3 → Nat :=
  let c0_i32_30_r0 : BitVec 32 := 0#32
  let c2_i32_122_r0 : BitVec 32 := 2#32
  let v135_r0 : BitVec 32 := Scalar.remui c0_i32_30_r0 c2_i32_122_r0
  let c0_i32_124_r0 : BitVec 32 := 0#32
  let c0_i32_125_r0 : BitVec 32 := 0#32
  ![v135_r0.toNat, 0, 0]
def k1_off25 (i : grid1.Coords) : Fin 2 → Nat :=
  let c0_i32_126_r0 : BitVec 32 := 0#32
  let c256_i32_123_r0 : BitVec 32 := 256#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v136_r0 : BitVec 32 := Scalar.muli c256_i32_123_r0 v37_r0
  ![0, v136_r0.toNat]
def k1_off26 : Fin 1 → Nat :=
  let c0_i32_30_r0 : BitVec 32 := 0#32
  let c2_i32_122_r0 : BitVec 32 := 2#32
  let v135_r0 : BitVec 32 := Scalar.remui c0_i32_30_r0 c2_i32_122_r0
  ![v135_r0.toNat]
def k1_off27 (i : grid1.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_79_r0 : BitVec 1 := 1#1
  let v94_r0 : BitVec 1 := Scalar.xori v31_r0 true_79_r0
  let v95_r0 : BitVec 1 := Scalar.andi v93_r0 v94_r0
  let true_81_r0 : BitVec 1 := 1#1
  let v98_r0 : BitVec 1 := Scalar.andi v95_r0 true_81_r0
  let c0_i32_30_r0 : BitVec 32 := 0#32
  let c1_i32_82_r0 : BitVec 32 := 1#32
  let v99_r0 : BitVec 32 := Scalar.addi c0_i32_30_r0 c1_i32_82_r0
  let v100_r0 : BitVec 32 := Scalar.select v98_r0 v99_r0 c0_i32_30_r0
  let c2_i32_114_r0 : BitVec 32 := 2#32
  let v125_r0 : BitVec 32 := Scalar.remui v100_r0 c2_i32_114_r0
  let c0_i32_116_r0 : BitVec 32 := 0#32
  let c0_i32_117_r0 : BitVec 32 := 0#32
  ![v125_r0.toNat, 0, 0]
def k1_off28 (i : grid1.Coords) : Fin 2 → Nat :=
  let c0_i32_118_r0 : BitVec 32 := 0#32
  let c256_i32_115_r0 : BitVec 32 := 256#32
  let c0_i32_95_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v112_r0 : BitVec 32 := Scalar.addi c0_i32_95_r0 v4
  let v126_r0 : BitVec 32 := Scalar.muli c256_i32_115_r0 v112_r0
  ![0, v126_r0.toNat]
def k1_off29 (i : grid1.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_79_r0 : BitVec 1 := 1#1
  let v94_r0 : BitVec 1 := Scalar.xori v31_r0 true_79_r0
  let v95_r0 : BitVec 1 := Scalar.andi v93_r0 v94_r0
  let true_81_r0 : BitVec 1 := 1#1
  let v98_r0 : BitVec 1 := Scalar.andi v95_r0 true_81_r0
  let c0_i32_30_r0 : BitVec 32 := 0#32
  let c1_i32_82_r0 : BitVec 32 := 1#32
  let v99_r0 : BitVec 32 := Scalar.addi c0_i32_30_r0 c1_i32_82_r0
  let v100_r0 : BitVec 32 := Scalar.select v98_r0 v99_r0 c0_i32_30_r0
  let c2_i32_114_r0 : BitVec 32 := 2#32
  let v125_r0 : BitVec 32 := Scalar.remui v100_r0 c2_i32_114_r0
  ![v125_r0.toNat]
abbrev grid2 : Pipeline.Grid := ⟨2, ![8, 8], ![false, false]⟩

def k2_cond2 (i : grid2.Coords) : BitVec 1 :=
  let arg1 : BitVec 32 := BitVec.ofNat 32 (i 1).val
  let c1_i32 : BitVec 32 := 1#32
  let v5 : BitVec 1 := Scalar.cmpi .eq arg1 c1_i32
  let arg0 : BitVec 32 := BitVec.ofNat 32 (i 0).val
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k2_off1 (i : grid2.Coords) : Fin 2 → Nat :=
  let arg0 : BitVec 32 := BitVec.ofNat 32 (i 0).val
  let c1_i32_17 : BitVec 32 := 1#32
  let v35 : BitVec 32 := Scalar.addi arg0 c1_i32_17
  let c512_i32 : BitVec 32 := 512#32
  let v36 : BitVec 32 := Scalar.muli v35 c512_i32
  let c0_i32_18 : BitVec 32 := 0#32
  ![v36.toNat, 0]
def k2_cond3 (i : grid2.Coords) : BitVec 1 :=
  let arg1 : BitVec 32 := BitVec.ofNat 32 (i 1).val
  let c2_i32 : BitVec 32 := 2#32
  let v10 : BitVec 1 := Scalar.cmpi .eq arg1 c2_i32
  let arg0 : BitVec 32 := BitVec.ofNat 32 (i 0).val
  let c7_i32_3 : BitVec 32 := 7#32
  let v11 : BitVec 1 := Scalar.cmpi .slt arg0 c7_i32_3
  let v12 : BitVec 1 := Scalar.andi v10 v11
  let v13 : BitVec 32 := Scalar.extui v12
  let c0_i32_4 : BitVec 32 := 0#32
  let v14 : BitVec 1 := Scalar.cmpi .ne v13 c0_i32_4
  v14

def k2_off2 (i : grid2.Coords) : Fin 2 → Nat :=
  let arg0 : BitVec 32 := BitVec.ofNat 32 (i 0).val
  let c1_i32_17 : BitVec 32 := 1#32
  let v35 : BitVec 32 := Scalar.addi arg0 c1_i32_17
  let c512_i32 : BitVec 32 := 512#32
  let v36 : BitVec 32 := Scalar.muli v35 c512_i32
  let c0_i32_18 : BitVec 32 := 0#32
  ![v36.toNat, 0]
def k2_off3 (i : grid2.Coords) : Fin 3 → Nat :=
  let arg0 : BitVec 32 := BitVec.ofNat 32 (i 0).val
  let c1_i32_21 : BitVec 32 := 1#32
  let v40 : BitVec 32 := Scalar.addi arg0 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : Index := Scalar.indexCast v50
  let c0_28 : Index := 0#32
  let c0_29 : Index := 0#32
  ![v51.toNat, 0, 0]
def k2_off4 (i : grid2.Coords) : Fin 3 → Nat :=
  let arg0 : BitVec 32 := BitVec.ofNat 32 (i 0).val
  let c2_i32_6 : BitVec 32 := 2#32
  let c0_i32_7 : BitVec 32 := 0#32
  let v17 : BitVec 1 := Scalar.cmpi .eq c2_i32_6 c0_i32_7
  let c1_i32_8 : BitVec 32 := 1#32
  let v18 : BitVec 32 := Scalar.select v17 c1_i32_8 c2_i32_6
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let v27 : Index := Scalar.indexCast v26
  let c0_12 : Index := 0#32
  let c0_13 : Index := 0#32
  ![v27.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![8, 16], ![false, false]⟩

def k3_cond2 (i : grid3.Coords) : BitVec 1 :=
  let arg1 : BitVec 32 := BitVec.ofNat 32 (i 1).val
  let c1_i32 : BitVec 32 := 1#32
  let v5 : BitVec 1 := Scalar.cmpi .eq arg1 c1_i32
  let arg0 : BitVec 32 := BitVec.ofNat 32 (i 0).val
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k3_off1 (i : grid3.Coords) : Fin 2 → Nat :=
  let arg0 : BitVec 32 := BitVec.ofNat 32 (i 0).val
  let c1_i32_29 : BitVec 32 := 1#32
  let v53 : BitVec 32 := Scalar.addi arg0 c1_i32_29
  let c512_i32 : BitVec 32 := 512#32
  let v54 : BitVec 32 := Scalar.muli v53 c512_i32
  let c0_i32_30 : BitVec 32 := 0#32
  ![v54.toNat, 0]
def k3_off2 (i : grid3.Coords) : Fin 2 → Nat :=
  let c0_i32_33 : BitVec 32 := 0#32
  let arg0 : BitVec 32 := BitVec.ofNat 32 (i 0).val
  let c1_i32_31 : BitVec 32 := 1#32
  let v56 : BitVec 32 := Scalar.addi arg0 c1_i32_31
  let c512_i32_32 : BitVec 32 := 512#32
  let v57 : BitVec 32 := Scalar.muli v56 c512_i32_32
  ![0, v57.toNat]
def k3_cond3 (i : grid3.Coords) : BitVec 1 :=
  let arg1 : BitVec 32 := BitVec.ofNat 32 (i 1).val
  let c2_i32 : BitVec 32 := 2#32
  let v10 : BitVec 1 := Scalar.cmpi .eq arg1 c2_i32
  let arg0 : BitVec 32 := BitVec.ofNat 32 (i 0).val
  let c7_i32_3 : BitVec 32 := 7#32
  let v11 : BitVec 1 := Scalar.cmpi .slt arg0 c7_i32_3
  let v12 : BitVec 1 := Scalar.andi v10 v11
  let v13 : BitVec 32 := Scalar.extui v12
  let c0_i32_4 : BitVec 32 := 0#32
  let v14 : BitVec 1 := Scalar.cmpi .ne v13 c0_i32_4
  v14

def k3_off3 (i : grid3.Coords) : Fin 2 → Nat :=
  let arg0 : BitVec 32 := BitVec.ofNat 32 (i 0).val
  let c1_i32_29 : BitVec 32 := 1#32
  let v53 : BitVec 32 := Scalar.addi arg0 c1_i32_29
  let c512_i32 : BitVec 32 := 512#32
  let v54 : BitVec 32 := Scalar.muli v53 c512_i32
  let c0_i32_30 : BitVec 32 := 0#32
  ![v54.toNat, 0]
def k3_off4 (i : grid3.Coords) : Fin 2 → Nat :=
  let c0_i32_33 : BitVec 32 := 0#32
  let arg0 : BitVec 32 := BitVec.ofNat 32 (i 0).val
  let c1_i32_31 : BitVec 32 := 1#32
  let v56 : BitVec 32 := Scalar.addi arg0 c1_i32_31
  let c512_i32_32 : BitVec 32 := 512#32
  let v57 : BitVec 32 := Scalar.muli v56 c512_i32_32
  ![0, v57.toNat]
def k3_off5 (i : grid3.Coords) : Fin 3 → Nat :=
  let arg0 : BitVec 32 := BitVec.ofNat 32 (i 0).val
  let c1_i32_36 : BitVec 32 := 1#32
  let v61 : BitVec 32 := Scalar.addi arg0 c1_i32_36
  let c2_i32_37 : BitVec 32 := 2#32
  let c0_i32_38 : BitVec 32 := 0#32
  let v62 : BitVec 1 := Scalar.cmpi .eq c2_i32_37 c0_i32_38
  let c1_i32_39 : BitVec 32 := 1#32
  let v63 : BitVec 32 := Scalar.select v62 c1_i32_39 c2_i32_37
  let v64 : BitVec 32 := Scalar.remsi v61 v63
  let c0_i32_41 : BitVec 32 := 0#32
  let v66 : BitVec 1 := Scalar.cmpi .slt v64 c0_i32_41
  let c0_i32_42 : BitVec 32 := 0#32
  let v67 : BitVec 1 := Scalar.cmpi .slt v63 c0_i32_42
  let v68 : BitVec 1 := Scalar.xori v66 v67
  let c0_i32_40 : BitVec 32 := 0#32
  let v65 : BitVec 1 := Scalar.cmpi .ne v64 c0_i32_40
  let v69 : BitVec 1 := Scalar.andi v68 v65
  let v70 : BitVec 32 := Scalar.addi v64 v63
  let v71 : BitVec 32 := Scalar.select v69 v70 v64
  let v72 : Index := Scalar.indexCast v71
  let c0_43 : Index := 0#32
  let c0_44 : Index := 0#32
  ![v72.toNat, 0, 0]
def k3_off6 (i : grid3.Coords) : Fin 3 → Nat :=
  let arg0 : BitVec 32 := BitVec.ofNat 32 (i 0).val
  let c1_i32_47 : BitVec 32 := 1#32
  let v78 : BitVec 32 := Scalar.addi arg0 c1_i32_47
  let c2_i32_48 : BitVec 32 := 2#32
  let c0_i32_49 : BitVec 32 := 0#32
  let v79 : BitVec 1 := Scalar.cmpi .eq c2_i32_48 c0_i32_49
  let c1_i32_50 : BitVec 32 := 1#32
  let v80 : BitVec 32 := Scalar.select v79 c1_i32_50 c2_i32_48
  let v81 : BitVec 32 := Scalar.remsi v78 v80
  let c0_i32_52 : BitVec 32 := 0#32
  let v83 : BitVec 1 := Scalar.cmpi .slt v81 c0_i32_52
  let c0_i32_53 : BitVec 32 := 0#32
  let v84 : BitVec 1 := Scalar.cmpi .slt v80 c0_i32_53
  let v85 : BitVec 1 := Scalar.xori v83 v84
  let c0_i32_51 : BitVec 32 := 0#32
  let v82 : BitVec 1 := Scalar.cmpi .ne v81 c0_i32_51
  let v86 : BitVec 1 := Scalar.andi v85 v82
  let v87 : BitVec 32 := Scalar.addi v81 v80
  let v88 : BitVec 32 := Scalar.select v86 v87 v81
  let v89 : Index := Scalar.indexCast v88
  let c0_54 : Index := 0#32
  let c0_55 : Index := 0#32
  ![v89.toNat, 0, 0]
def k3_off7 (i : grid3.Coords) : Fin 3 → Nat :=
  let arg0 : BitVec 32 := BitVec.ofNat 32 (i 0).val
  let c2_i32_6 : BitVec 32 := 2#32
  let c0_i32_7 : BitVec 32 := 0#32
  let v17 : BitVec 1 := Scalar.cmpi .eq c2_i32_6 c0_i32_7
  let c1_i32_8 : BitVec 32 := 1#32
  let v18 : BitVec 32 := Scalar.select v17 c1_i32_8 c2_i32_6
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let v27 : Index := Scalar.indexCast v26
  let c0_12 : Index := 0#32
  let c0_13 : Index := 0#32
  ![v27.toNat, 0, 0]
def k3_off8 (i : grid3.Coords) : Fin 3 → Nat :=
  let arg0 : BitVec 32 := BitVec.ofNat 32 (i 0).val
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi arg0 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : Index := Scalar.indexCast v42
  let c0_22 : Index := 0#32
  let c0_23 : Index := 0#32
  ![v43.toNat, 0, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4096x4096 : Shape := ⟨2, ![4096, 4096]⟩
abbrev S8x4096 : Shape := ⟨2, ![8, 4096]⟩
abbrev S4096x8 : Shape := ⟨2, ![4096, 8]⟩
abbrev S8192x8 : Shape := ⟨2, ![8192, 8]⟩
abbrev S8192x2 : Shape := ⟨2, ![8192, 2]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8x4096, .f32⟩
  | .hbm, ⟨4, _⟩ => ⟨S4096x4096, .f32⟩
  | .hbm, ⟨5, _⟩ => ⟨S4096x8, .f32⟩
  | .hbm, ⟨6, _⟩ => ⟨S8192x8, .f32⟩
  | .hbm, ⟨7, _⟩ => ⟨S8192x2, .f32⟩
  | .hbm, ⟨8, _⟩ => ⟨S8192x2, .i32⟩
  | .hbm, ⟨9, _⟩ => ⟨S4096x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.Setup.lean ====
/-
  What the modules of this proof share: the program as its launch theorem sees it, the resource algebra, the device's
  arrays, and the value the SparseCore call leaves (the two largest of eight logits, added).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the pipelines beside the kernels'. -/
abbrev ΛP [FloatOps F] : Labels := Pipeline.Sig Λ₀ (Fin 3) fun p => (pcfgs (F := F) p).Adm
/-- The one SparseCore call. -/
abbrev K [FloatOps F] : SparseCore.Cfg τ sig (ΛP (F := F)) 1 := sc (F := F)
/-- The body table with the pipelines' own labels. -/
abbrev D [FloatOps F] : Defs nD τ sig (Elt F) (ΛP (F := F)) := Pipeline.defs pcfgs defs₀
/-- No label calls itself: there is no variant to descend. -/
abbrev 𝒱₀ : Variants := Variants.none
/-- The same over the pipelines' labels. -/
abbrev 𝒱 : Variants := 𝒱₀.lift
/-- The variant of the launch. -/
abbrev v₀ : 𝒱.V := Sum.inl none

variable [FloatOps F]

/-- The launch's own semaphores are distinct, none of them a kernel's, and no scratch is shared between the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' rounds. -/
abbrev UP : Type := UR sig nD τ
/-- The handshakes' rounds, the pipelines', and the counters of the kernels' own transfers. -/
abbrev UU : Type := UH × (UP × Counters)

local notation "𝕄" => MT nD τ sig (HIx 1) (Elt F) ℕ UU ℕ

omit [FloatOps F] in
/-- Equal propositions entail one another. -/
theorem entails_of_eq {P Q : sProp 𝕄} (e : P = Q) : P ⊢ Q := e ▸ .rfl

/-- The handshakes' part of the algebra. -/
abbrev EH : Emb UH (MT nD τ sig (HIx 1) (Elt F) ℕ UU ℕ) := embL

/-- The pipelines' part of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

omit [FloatOps F] in
instance EP_landsIn : (EP : Emb UP 𝕄).LandsIn (upEmb : UEmb _ 𝕄) := by unfold EP; infer_instance

/-! ## What the SparseCore call computes -/

/-- The two largest of eight numbers, added, as the kernel folds them: a running largest `m` and a running second `n`,
    each next number `a` taking them to `max m a` and `max n (min m a)`. -/
def top2 (a : Fin 8 → F .f32) : F .f32 :=
  let n1 := FloatOps.minimumf (a 0) (a 1); let m1 := FloatOps.maximumf (a 0) (a 1)
  let n2 := FloatOps.maximumf n1 (FloatOps.minimumf m1 (a 2)); let m2 := FloatOps.maximumf m1 (a 2)
  let n3 := FloatOps.maximumf n2 (FloatOps.minimumf m2 (a 3)); let m3 := FloatOps.maximumf m2 (a 3)
  let n4 := FloatOps.maximumf n3 (FloatOps.minimumf m3 (a 4)); let m4 := FloatOps.maximumf m3 (a 4)
  let n5 := FloatOps.maximumf n4 (FloatOps.minimumf m4 (a 5)); let m5 := FloatOps.maximumf m4 (a 5)
  let n6 := FloatOps.maximumf n5 (FloatOps.minimumf m5 (a 6)); let m6 := FloatOps.maximumf m5 (a 6)
  let n7 := FloatOps.maximumf n6 (FloatOps.minimumf m6 (a 7)); let m7 := FloatOps.maximumf m6 (a 7)
  FloatOps.addf m7 n7

/-- The index of row `e`, column `j`. -/
def at2 {a b : Nat} (e : Fin a) (j : Fin b) : (⟨2, ![a, b]⟩ : Shape).Idx := fun | 0 => e | 1 => j

/-- The two largest of the eight numbers of each column of `g`, added: one row. -/
def rowTop2 {n : Nat} (g : (⟨2, ![8, n]⟩ : Shape).Idx → F .f32) : (⟨2, ![1, n]⟩ : Shape).Idx → F .f32 :=
  fun y => top2 fun e => g (at2 e (y 1))

end Cert.Proof.Top2
-- ==== Proof.Tile.lean ====
/-
  One tile of the SparseCore call: it fetches its 256 columns of the eight logit rows, folds every column to the sum of
  its two largest numbers, sixteen columns a trip, and sends the 256 sums out.
-/
module

public import proofs.«01_k».proof.Proof.Setup

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xW" => (Memref.whole Cert.KernelIdeal.main_v3_scv : Memref Cert.KernelIdeal.sig Kind.scVector Space.hbm Cert.KernelIdeal.S8x8192 EltTy.f32)
local notation "oW" => (Memref.whole Cert.KernelIdeal.main_v4_scv : Memref Cert.KernelIdeal.sig Kind.scVector Space.hbm Cert.KernelIdeal.S1x8192 EltTy.f32)
local notation "aW" => (Memref.whole Cert.KernelIdeal.cc1_scoped0 : Memref Cert.KernelIdeal.sig Kind.scVector Space.vmem Cert.KernelIdeal.S2x8x256 EltTy.f32)
local notation "bW" => (Memref.whole Cert.KernelIdeal.cc1_scoped2 : Memref Cert.KernelIdeal.sig Kind.scVector Space.vmem Cert.KernelIdeal.S2x1x256 EltTy.f32)

/-! ## The tile's slots, blocks and semaphores -/

section Names

theorem inSlot_inb : ∀ a, (![0, 0, 0] : Fin 3 → Nat) a + S1x8x256.size a ≤ S2x8x256.size a := by decide
theorem outSlot_inb : ∀ a, (![0, 0, 0] : Fin 3 → Nat) a + S1x1x256.size a ≤ S2x1x256.size a := by decide
theorem sem_inb : ∀ a, (![0] : Fin 1 → Nat) a + S1.size a ≤ S2.size a := by decide

/-- The first slot of the tile's input scratch. -/
def inSlot : Memref sig .scVector .vmem S8x256 .f32 :=
  ((aW).slice (Rect.unit (s := S2x8x256) ![0, 0, 0] S1x8x256.size inSlot_inb) (fun _ => rfl)).squeeze S8x256 squeezes_S1x8x256_S8x256
/-- The first slot of the tile's output scratch. -/
def outSlot : Memref sig .scVector .vmem S1x256 .f32 :=
  ((bW).slice (Rect.unit (s := S2x1x256) ![0, 0, 0] S1x1x256.size outSlot_inb) (fun _ => rfl)).squeeze S1x256 squeezes_S1x1x256_S1x256
/-- The fetch's semaphore. -/
def inSem : DmaSems sig S_ := (cc1_scoped1.slice (Rect.unit (s := S2) ![0] S1.size sem_inb)).squeeze S_ squeezes_S1_S_
/-- The send's semaphore. -/
def outSem : DmaSems sig S_ := (cc1_scoped3.slice (Rect.unit (s := S2) ![0] S1.size sem_inb)).squeeze S_ squeezes_S1_S_

variable (L : grid1.Coords)

/-- Where the tile's columns begin. -/
abbrev colOff : Fin 2 → Nat := ![0, 256 * (L 1).val + 4096 * (L 0).val]
theorem inBlk_inb : ∀ L : grid1.Coords, ∀ a, colOff L a + S8x256.size a ≤ S8x8192.size a := by decide +kernel
theorem outBlk_inb : ∀ L : grid1.Coords, ∀ a, colOff L a + S1x256.size a ≤ S1x8192.size a := by decide +kernel
/-- The tile's columns of the logits. -/
def inBlk : Memref sig .scVector .hbm S8x256 .f32 := (xW).slice (Rect.unit (s := S8x8192) (colOff L) S8x256.size (inBlk_inb L)) (fun _ => rfl)
/-- The tile's columns of the sums. -/
def outBlk : Memref sig .scVector .hbm S1x256 .f32 := (oW).slice (Rect.unit (s := S1x8192) (colOff L) S1x256.size (outBlk_inb L)) (fun _ => rfl)

theorem inSlot_congr {off : Fin 3 → Nat} (e : off = ![0, 0, 0]) (hh hs) :
    ((aW).slice (Rect.unit (s := S2x8x256) off S1x8x256.size hh) hs).squeeze S8x256 squeezes_S1x8x256_S8x256 = inSlot := by subst e; rfl
theorem outSlot_congr {off : Fin 3 → Nat} (e : off = ![0, 0, 0]) (hh hs) :
    ((bW).slice (Rect.unit (s := S2x1x256) off S1x1x256.size hh) hs).squeeze S1x256 squeezes_S1x1x256_S1x256 = outSlot := by subst e; rfl
theorem inSem_congr {off : Fin 1 → Nat} (e : off = ![0]) (hh) :
    (cc1_scoped1.slice (Rect.unit (s := S2) off S1.size hh)).squeeze S_ squeezes_S1_S_ = inSem := by subst e; rfl
theorem outSem_congr {off : Fin 1 → Nat} (e : off = ![0]) (hh) :
    (cc1_scoped3.slice (Rect.unit (s := S2) off S1.size hh)).squeeze S_ squeezes_S1_S_ = outSem := by subst e; rfl

theorem inBlk_congr {off : Fin 2 → Nat} (e : off = colOff L) (hh hs) :
    (xW).slice (Rect.unit (s := S8x8192) off S8x256.size hh) hs = inBlk L := by subst e; rfl
theorem outBlk_congr {off : Fin 2 → Nat} (e : off = colOff L) (hh hs) :
    (oW).slice (Rect.unit (s := S1x8192) off S1x256.size hh) hs = outBlk L := by subst e; rfl

@[sl_canon] theorem slot1 (hh hs) : ((aW).slice (Rect.unit (s := S2x8x256) k1_off1 S1x8x256.size hh) hs).squeeze S8x256 squeezes_S1x8x256_S8x256 = inSlot := inSlot_congr k1_off1_eq _ _
@[sl_canon] theorem slot7 (hh hs) : ((aW).slice (Rect.unit (s := S2x8x256) k1_off7 S1x8x256.size hh) hs).squeeze S8x256 squeezes_S1x8x256_S8x256 = inSlot := inSlot_congr k1_off7_eq _ _
@[sl_canon] theorem slot10 (hh hs) : ((aW).slice (Rect.unit (s := S2x8x256) k1_off10 S1x8x256.size hh) hs).squeeze S8x256 squeezes_S1x8x256_S8x256 = inSlot := inSlot_congr k1_off10_eq _ _
@[sl_canon] theorem slot19 (hh hs) : ((bW).slice (Rect.unit (s := S2x1x256) k1_off19 S1x1x256.size hh) hs).squeeze S1x256 squeezes_S1x1x256_S1x256 = outSlot := outSlot_congr k1_off19_eq _ _
@[sl_canon] theorem slot21 (hh hs) : ((bW).slice (Rect.unit (s := S2x1x256) k1_off21 S1x1x256.size hh) hs).squeeze S1x256 squeezes_S1x1x256_S1x256 = outSlot := outSlot_congr k1_off21_eq _ _
@[sl_canon] theorem slot27 (hh hs) : ((bW).slice (Rect.unit (s := S2x1x256) (k1_off27 L) S1x1x256.size hh) hs).squeeze S1x256 squeezes_S1x1x256_S1x256 = outSlot := outSlot_congr (k1_off27_eq L) _ _
@[sl_canon] theorem sem3 (hh) : (cc1_scoped1.slice (Rect.unit (s := S2) k1_off3 S1.size hh)).squeeze S_ squeezes_S1_S_ = inSem := inSem_congr k1_off3_eq _
@[sl_canon] theorem sem9 (hh) : (cc1_scoped1.slice (Rect.unit (s := S2) k1_off9 S1.size hh)).squeeze S_ squeezes_S1_S_ = inSem := inSem_congr k1_off9_eq _
@[sl_canon] theorem sem23 (hh) : (cc1_scoped3.slice (Rect.unit (s := S2) k1_off23 S1.size hh)).squeeze S_ squeezes_S1_S_ = outSem := outSem_congr k1_off23_eq _
@[sl_canon] theorem sem29 (hh) : (cc1_scoped3.slice (Rect.unit (s := S2) (k1_off29 L) S1.size hh)).squeeze S_ squeezes_S1_S_ = outSem := outSem_congr (k1_off29_eq L) _
@[sl_canon] theorem blk2 (hh hs) : (xW).slice (Rect.unit (s := S8x8192) (k1_off2 L) S8x256.size hh) hs = inBlk L := inBlk_congr L (k1_off2_eq L) _ _
@[sl_canon] theorem blk8 (hh hs) : (xW).slice (Rect.unit (s := S8x8192) (k1_off8 L) S8x256.size hh) hs = inBlk L := inBlk_congr L (k1_off8_eq L) _ _
@[sl_canon] theorem blk22 (hh hs) : (oW).slice (Rect.unit (s := S1x8192) (k1_off22 L) S1x256.size hh) hs = outBlk L := outBlk_congr L (k1_off22_eq L) _ _
@[sl_canon] theorem blk28 (hh hs) : (oW).slice (Rect.unit (s := S1x8192) (k1_off28 L) S1x256.size hh) hs = outBlk L := outBlk_congr L (k1_off28_eq L) _ _
@[sl_canon] theorem slot27' (hh hs) : ((bW).slice (Rect.unit (s := S2x1x256) (k1_off27 L) ![1, 1, 256] hh) hs).squeeze S1x256 squeezes_S1x1x256_S1x256 = outSlot := outSlot_congr (k1_off27_eq L) _ _
@[sl_canon] theorem sem29' (hh) : (cc1_scoped3.slice (Rect.unit (s := S2) (k1_off29 L) ![1] hh)).squeeze S_ squeezes_S1_S_ = outSem := outSem_congr (k1_off29_eq L) _
@[sl_canon] theorem blk28' (hh hs) : (oW).slice (Rect.unit (s := S1x8192) (k1_off28 L) ![1, 256] hh) hs = outBlk L := outBlk_congr L (k1_off28_eq L) _ _

end Names

/-! ## The branches, the same on every tile: one fetch, one send, no prefetch -/

theorem cond1_all : ∀ L : grid1.Coords, ¬ k1_cond1 L = 1#1 := by decide +kernel
theorem cond2_all : ∀ L : grid1.Coords, k1_cond2 L = 1#1 := by decide +kernel
theorem cond5_all : ∀ L : grid1.Coords, k1_cond5 L = 1#1 := by decide +kernel
theorem cond7_all : ∀ L : grid1.Coords, ¬ k1_cond7 L = 1#1 := by decide +kernel

/-! ## The tile's own semaphores and scratches -/

section Body

variable (d : Dev nD) (L : grid1.Coords)

/-- The SparseCore and the tile of a grid point. -/
abbrev cV : Fin τ.nSC := (L 0).castLE hcore1
abbrev jV : Fin τ.nSub := (L 1).castLE hsub1
/-- The tile's thread. -/
abbrev thV : Thread nD τ := V d (cV L) (jV L)
/-- The fetch's and the send's cells. -/
abbrev inCell : GSem nD τ sig := (thV d L, .dma inSem.sem)
abbrev outCell : GSem nD τ sig := (thV d L, .dma outSem.sem)

theorem ownSems0_V :
    (ownSems0 (thV d L) : sProp 𝕄)
      = iprop(semVal (inCell d L) 0 ∗ semVal (outCell d L) 0
          ∗ bigSep (((ownCells (thV d L)).erase (inCell d L)).erase (outCell d L)) fun g => semVal g 0) := by
  unfold SparseCore.Cfg.ownSems0
  rw [SparseCore.bigSep_erase' ((mem_ownCells (g := inCell d L)).mpr ⟨rfl, by
        show (SemLoc.dma inSem.sem : SemLoc sig).isScoped .scVector = true; decide⟩),
    SparseCore.bigSep_erase' (Finset.mem_erase.mpr ⟨fun e => absurd (congrArg Prod.snd e) (show (SemLoc.dma outSem.sem : SemLoc sig) ≠ .dma inSem.sem by decide),
      (mem_ownCells (g := outCell d L)).mpr ⟨rfl, by
        show (SemLoc.dma outSem.sem : SemLoc sig).isScoped .scVector = true; decide⟩⟩)]

theorem ownBufs_V :
    (ownBufs (thV d L) : sProp 𝕄)
      = iprop((∃ f, (thV d L).loc cc1_scoped0 ↦{fullShare} f) ∗ (∃ f, (thV d L).loc cc1_scoped2 ↦{fullShare} f)
          ∗ bigSep (((ownRefs (.scVector (cV L) (jV L))).erase ((Proc.scVector (cV L) (jV L)).devRef cc1_scoped0)).erase
              ((Proc.scVector (cV L) (jV L)).devRef cc1_scoped2)) fun b => iprop(∃ f, ((thV d L).1, b) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

variable [FloatOps F]

/-- What the tile is handed of the logits and of the sums. -/
abbrev inP (f : Buf (Elt F) ((inBlk L).view.loc (thV d L))) : sProp 𝕄 := (inBlk L).view.loc (thV d L) ↦[(inBlk L).view.set]{fullShare} f
abbrev outP (f : Buf (Elt F) ((outBlk L).view.loc (thV d L))) : sProp 𝕄 := (outBlk L).view.loc (thV d L) ↦[(outBlk L).view.set]{fullShare} f

/-- The first slot of the input scratch, and the rest of it. -/
abbrev inS (f : Buf (Elt F) (inSlot.view.loc (thV d L))) : sProp 𝕄 := inSlot.view.loc (thV d L) ↦[inSlot.view.set]{fullShare} f
abbrev inRest (f : Buf (Elt F) (inSlot.view.loc (thV d L))) : sProp 𝕄 := inSlot.view.loc (thV d L) ↦[Finset.univ \ inSlot.view.set]{fullShare} f
/-- The first slot of the output scratch, and the rest of it. -/
abbrev outS (f : Buf (Elt F) (outSlot.view.loc (thV d L))) : sProp 𝕄 := outSlot.view.loc (thV d L) ↦[outSlot.view.set]{fullShare} f
abbrev outRest (f : Buf (Elt F) (outSlot.view.loc (thV d L))) : sProp 𝕄 := outSlot.view.loc (thV d L) ↦[Finset.univ \ outSlot.view.set]{fullShare} f

omit [FloatOps F] in
/-- The staging buffer is the slot and the rest of it. -/
theorem in_split (f : Buf (Elt F) ((thV d L).loc cc1_scoped0)) : ((thV d L).loc cc1_scoped0 ↦{fullShare} f : sProp 𝕄) ⊢ iprop(inS d L f ∗ inRest d L f) :=
  (pointsTo_split_subset (Finset.subset_univ inSlot.view.set)).1
omit [FloatOps F] in
/-- And they join again. -/
theorem in_join (g f : Buf (Elt F) ((thV d L).loc cc1_scoped0)) : iprop(inS d L g ∗ inRest d L f) ⊢ (iprop(∃ h, (thV d L).loc cc1_scoped0 ↦{fullShare} h) : sProp 𝕄) :=
  (pointsTo_join_subset (Finset.subset_univ inSlot.view.set)).trans (by iintro H; iexists _; iexact H)
omit [FloatOps F] in
/-- The same of the output's staging buffer. -/
theorem out_split (f : Buf (Elt F) ((thV d L).loc cc1_scoped2)) : ((thV d L).loc cc1_scoped2 ↦{fullShare} f : sProp 𝕄) ⊢ iprop(outS d L f ∗ outRest d L f) :=
  (pointsTo_split_subset (Finset.subset_univ outSlot.view.set)).1
omit [FloatOps F] in
theorem out_join (g f : Buf (Elt F) ((thV d L).loc cc1_scoped2)) : iprop(outS d L g ∗ outRest d L f) ⊢ (iprop(∃ h, (thV d L).loc cc1_scoped2 ↦{fullShare} h) : sProp 𝕄) :=
  (pointsTo_join_subset (Finset.subset_univ outSlot.view.set)).trans (by iintro H; iexists _; iexact H)

/-- The stored vector of a trip, column by column: the kernel's fold of the eight loaded rows. -/
theorem pay_eq (a0 a1 a2 a3 a4 a5 a6 a7 : Vec F S1x16 .f32) (y : S1x16.Idx) :
    k1_pay10 (k1_pay7 a0 a1 a2 a3) (k1_pay8 a4) (k1_pay9 a0 a1 a2 a3 a4) a5 a6 a7 y
      = top2 fun e => (![a0, a1, a2, a3, a4, a5, a6, a7] : Fin 8 → Vec F S1x16 .f32) e y := by
  have e : ∀ (a : Vec F S1x16 .f32), (shapeCast S16 a shapeCasts_S1x16_S16) (Shape.reshapeEquiv shapeCasts_S16_S1x16 y) = a y := fun a => by
    unfold shapeCast; rw [Shape.reshapeEquiv_reshapeEquiv, Shape.reshapeEquiv_self]
  unfold k1_pay10 k1_pay7 k1_pay8 k1_pay9 k1_pay5 k1_pay6 k1_pay3 k1_pay4 k1_pay1 k1_pay2
  show FloatOps.addf _ _ = _
  simp only [k1_pay7, k1_pay8, k1_pay5, k1_pay6, k1_pay3, k1_pay4, k1_pay1, k1_pay2, maximumf, minimumf, e]
  rfl

omit [FloatOps F] in
/-- A loaded row, sixteen columns from column `16 k`. -/
theorem row_load (G : S8x256.Idx → Elt F .f32) (fa : Buf (Elt F) (inSlot.view.loc (thV d L))) (hfa : inSlot.view.read (Elt F) fa = G)
    {off : Fin 2 → Nat} {r k : Nat} (ho : off = ![r, 16 * k]) (hr : r < 8) (inb : ∀ a, off a + S1x16.size a ≤ S8x256.size a)
    (y : S1x16.Idx) (Y : S1x256.Idx) (hY : (Y 1).val = 16 * k + (y 1).val) :
    inSlot.view.readAt (Elt F) (Rect.unit (s := S8x256) off S1x16.size inb).toLoadRect fa y = G (at2 ⟨r, hr⟩ (Y 1)) := by
  subst ho
  rw [View.readAt_apply, hfa]
  congr 1
  have h0 : (y 0).val = 0 := by have := (y 0).isLt; change (y 0).val < 1 at this; omega
  funext a
  match a with
  | 0 => exact Fin.ext (by show r + 1 * (y 0).val = r; omega)
  | 1 => exact Fin.ext (by show 16 * k + 1 * (y 1).val = (Y 1).val; omega)

/-- Before trip `k`: the fetched rows, and the output slot with the sums of the columns below `16 k`. -/
def inv (g : Buf (Elt F) ((inBlk L).view.loc (thV d L))) (k : Nat) (_ : PUnit) : sProp 𝕄 :=
  iprop((∃ fa, ⌜inSlot.view.read (Elt F) fa = (inBlk L).view.read (Elt F) g⌝ ∗ inS d L fa)
    ∗ ∃ f, ⌜∀ y : S1x256.Idx, (y 1).val < 16 * k → outSlot.view.read (Elt F) f y = rowTop2 ((inBlk L).view.read (Elt F) g) y⌝ ∗ outS d L f)

/-- The tile's loop has sixteen trips. -/
theorem trips_eq : Scf.trips k1_t1_loop.lb k1_t1_loop.ub k1_t1_loop.st = 16 := by decide +kernel

/-- The tile's run: the sums' block comes back with the two largest numbers of each of the tile's columns, added. -/
theorem tile_body (g : Buf (Elt F) ((inBlk L).view.loc (thV d L))) (O : CellTallies nD τ sig (HIx 1)) (W : Waits sig (HIx 1)) (hO : ∀ g, O g none = 0) :
    iprop(levAts (K (F := F)).L (K (F := F)).lev ∗ emp ∗ (inP d L g ∗ ∃ f, outP d L f)
        ∗ scopedBufs (thV d L) ∗ scopedSems0 (thV d L) ∗ owes (thV d L) O W)
      ⊢ wp frame (wpE (defs₀ (F := F)) 𝒱₀ (thV d L) none) Set.univ
          (cc1_run L xW (Memref.isWhole_whole _) oW (Memref.isWhole_whole _) aW (Memref.isWhole_whole _) cc1_scoped1 bW (Memref.isWhole_whole _) cc1_scoped3)
          fun _ => iprop((inP d L g ∗ ∃ f, ⌜(outBlk L).view.read (Elt F) f = rowTop2 ((inBlk L).view.read (Elt F) g)⌝ ∗ outP d L f)
            ∗ scopedBufs (thV d L) ∗ scopedSems0 (thV d L) ∗ ∃ W', ⌜∀ p ∈ W', p ∈ W ∨ p.2 = none⌝ ∗ owes (thV d L) O W') := by
  have k1_h1 : ¬ k1_cond1 L = 1#1 := cond1_all L
  have k1_h2 : k1_cond2 L = 1#1 := cond2_all L
  have k1_h5 : k1_cond5 L = 1#1 := cond5_all L
  have k1_h7 : ¬ k1_cond7 L = 1#1 := cond7_all L
  simp only [cc1_run_eq_skeleton]; unfold cc1_run_skel
  simp only [k1_part2_eq_skeleton, k1_part3_eq_skeleton, k1_part4_eq_skeleton, k1_part5_eq_skeleton]
  unfold k1_part2_skel k1_part3_skel k1_part4_skel k1_part5_skel
  rw [(K (F := F)).scopedBufs_V facts d (cV L) (jV L), SparseCore.Cfg.scopedSems0_V (Val := Elt F) d (cV L) (jV L), ownSems0_V, ownBufs_V]
  iintro ⟨#Hlv, -, ⟨Hi, ⟨%fo, Ho⟩⟩, ⟨⟨%fa, Ha⟩, ⟨%fb, Hb⟩, Hbufs⟩, ⟨HsemA, HsemB, Hsems⟩, HO⟩
  ihave Hmw := ((K (F := F)).mayWaits_none (thr := thV d L) hO) $$ Hlv
  ihave Ha' := (in_split d L fa) $$ Ha
  icases Ha' with ⟨Ha, Har⟩
  ihave Hb' := (out_split d L fb) $$ Hb
  icases Hb' with ⟨Hb, Hbr⟩
  sl_exec
  rw [bind_assoc]
  sl_for (inv d L g) $$ [Ha Hb]
  case region =>
    intro k _
    unfold inv
    iintro ⟨⟨%fa, %hfa, Ha⟩, %f, %hf, Hb⟩
    sl_exec
    sl_step
    isplitl [Ha]
    · iexists fa; isplitr; · ipureintro; exact hfa
      iexact Ha
    iexists _; isplitr
    rotate_left
    · iexact Hb
    ipureintro
    intro Y hY
    have hk : k.val < 16 := Nat.lt_of_lt_of_eq k.isLt trips_eq
    have hY0 : (Y 0).val = 0 := by have := (Y 0).isLt; change (Y 0).val < 1 at this; omega
    by_cases hlt : (Y 1).val < 16 * k.val
    · rw [View.read_writes_cons_miss_of_axis _ _ _ _ _ 1 (16 * k.val) 16 (by rw [Rect.off_unit, k1_off20_eq]; rfl) rfl rfl (.inl hlt)]
      exact hf Y hlt
    · have hy : (Y 1).val - 16 * k.val < 16 := by omega
      rw [View.read_writes_cons_hit_of_coords _ _ _ _ _ (at2 0 ⟨(Y 1).val - 16 * k.val, hy⟩) Y (by
        intro a
        show (Y a).val = k1_off20 k a + 1 * (at2 0 ⟨(Y 1).val - 16 * k.val, hy⟩ a : Fin _).val
        rw [k1_off20_eq]
        match a with
        | 0 => show (Y 0).val = 0 + 1 * 0; omega
        | 1 => show (Y 1).val = 16 * k.val + 1 * ((Y 1).val - 16 * k.val); omega)]
      sl_unfold_run_names
      rw [pay_eq]
      unfold rowTop2
      congr 1
      funext e
      match e with
      | 0 => exact row_load d L _ fa hfa (k1_off11_eq k) (by decide) _ _ Y (by show _ = 16 * k.val + ((Y 1).val - 16 * k.val); omega)
      | 1 => exact row_load d L _ fa hfa (k1_off12_eq k) (by decide) _ _ Y (by show _ = 16 * k.val + ((Y 1).val - 16 * k.val); omega)
      | 2 => exact row_load d L _ fa hfa (k1_off13_eq k) (by decide) _ _ Y (by show _ = 16 * k.val + ((Y 1).val - 16 * k.val); omega)
      | 3 => exact row_load d L _ fa hfa (k1_off14_eq k) (by decide) _ _ Y (by show _ = 16 * k.val + ((Y 1).val - 16 * k.val); omega)
      | 4 => exact row_load d L _ fa hfa (k1_off15_eq k) (by decide) _ _ Y (by show _ = 16 * k.val + ((Y 1).val - 16 * k.val); omega)
      | 5 => exact row_load d L _ fa hfa (k1_off16_eq k) (by decide) _ _ Y (by show _ = 16 * k.val + ((Y 1).val - 16 * k.val); omega)
      | 6 => exact row_load d L _ fa hfa (k1_off17_eq k) (by decide) _ _ Y (by show _ = 16 * k.val + ((Y 1).val - 16 * k.val); omega)
      | 7 => exact row_load d L _ fa hfa (k1_off18_eq k) (by decide) _ _ Y (by show _ = 16 * k.val + ((Y 1).val - 16 * k.val); omega)
  · unfold inv
    isplitl [Ha]
    · iexists _; isplitr
      rotate_left
      · iexact Ha
      · ipureintro; exact (View.read_writes_whole _ _ _).trans (by sl_unfold_run_names; rw [ReadAs.apply_same])
    · iexists fb; isplitr; · ipureintro; intro y hy; omega
      iexact Hb
  iintro %_ HI
  unfold inv
  icases HI with ⟨⟨%fa', %hfa, Ha⟩, %f, %hf, Hb⟩
  sl_exec
  sl_step
  isplitl [Hi Ho]
  · isplitl [Hi]; · iexact Hi
    iexists _; isplitr
    rotate_left
    · iexact Ho
    · ipureintro; rw [View.read_writes_whole]; sl_unfold_run_names; rw [ReadAs.apply_same]
      funext y; refine hf y ?_; rw [trips_eq]; exact (y 1).isLt
  isplitl [Ha Har Hb Hbr Hbufs]
  · isplitl [Ha Har]
    · iapply (in_join d L fa' fa); isplitl [Ha]; · iexact Ha
      iexact Har
    isplitl [Hb Hbr]
    · iapply (out_join d L f fb); isplitl [Hb]; · iexact Hb
      iexact Hbr
    iexact Hbufs
  isplitl [HsemA HsemB Hsems]
  · isplitl [HsemA]; · iexact HsemA
    isplitl [HsemB]; · iexact HsemB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact .inl hp

end Body

end Cert.Proof.Top2
-- ==== Proof.Launch.lean ====
/-
  The SparseCore call as the launch theorem takes it: what its cores and tiles are handed of the logits and of the sums,
  and how these gather back.
-/
module

public import proofs.«01_k».proof.Proof.Tile

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks: thirty-two runs of 256 columns -/

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- The arrays of the logits and of the sums on a device. -/
abbrev xLoc (d : Dev nD) : Loc nD τ sig := (T d : Thread nD τ).loc main_v3
abbrev oLoc (d : Dev nD) : Loc nD τ sig := (T d : Thread nD τ).loc main_v4

/-- A tile's columns of the logits, and of the sums. -/
def inSet (p : Fin 2 × Fin 16) : Finset S8x8192.Idx := (inBlk (coordsV p.1 p.2)).view.set
def outSet (p : Fin 2 × Fin 16) : Finset S1x8192.Idx := (outBlk (coordsV p.1 p.2)).view.set

theorem mem_inSet {p : Fin 2 × Fin 16} {j : S8x8192.Idx} :
    j ∈ inSet p ↔ 256 * p.2.val + 4096 * p.1.val ≤ (j 1).val ∧ (j 1).val < 256 * p.2.val + 4096 * p.1.val + 256 := by
  have e : inSet p = (Rect.unit (s := S8x8192) (colOff (coordsV p.1 p.2)) S8x256.size (inBlk_inb _)).set := by
    show ((View.whole (main_v3_scv : Ref sig .scVector)).slice _).set = _
    rw [View.set_slice]; exact Finset.map_refl
  rw [e, Rect.mem_set_unit]
  refine ⟨fun h => h 1, fun h a => ?_⟩
  match a with
  | 0 => exact ⟨Nat.zero_le _, by have := (j 0).isLt; show (j 0).val < 0 + 8; change (j 0).val < 8 at this; omega⟩
  | 1 => exact h

theorem mem_outSet {p : Fin 2 × Fin 16} {j : S1x8192.Idx} :
    j ∈ outSet p ↔ 256 * p.2.val + 4096 * p.1.val ≤ (j 1).val ∧ (j 1).val < 256 * p.2.val + 4096 * p.1.val + 256 := by
  have e : outSet p = (Rect.unit (s := S1x8192) (colOff (coordsV p.1 p.2)) S1x256.size (outBlk_inb _)).set := by
    show ((View.whole (main_v4_scv : Ref sig .scVector)).slice _).set = _
    rw [View.set_slice]; exact Finset.map_refl
  rw [e, Rect.mem_set_unit]
  refine ⟨fun h => h 1, fun h a => ?_⟩
  match a with
  | 0 => exact ⟨Nat.zero_le _, by have := (j 0).isLt; show (j 0).val < 0 + 1; change (j 0).val < 1 at this; omega⟩
  | 1 => exact h

/-- Two runs that share a column are one. -/
theorem run_inj {p q : Fin 2 × Fin 16} {n : ℕ} (hp : 256 * p.2.val + 4096 * p.1.val ≤ n ∧ n < 256 * p.2.val + 4096 * p.1.val + 256)
    (hq : 256 * q.2.val + 4096 * q.1.val ≤ n ∧ n < 256 * q.2.val + 4096 * q.1.val + 256) : p = q := by
  have h1 := p.2.isLt; have h2 := q.2.isLt; have h3 := p.1.isLt; have h4 := q.1.isLt
  exact Prod.ext (Fin.ext (by omega)) (Fin.ext (by omega))

/-- Every column lies in a run. -/
theorem run_cover {n : ℕ} (h : n < 8192) : ∃ p : Fin 2 × Fin 16, 256 * p.2.val + 4096 * p.1.val ≤ n ∧ n < 256 * p.2.val + 4096 * p.1.val + 256 :=
  ⟨(⟨n / 4096, by omega⟩, ⟨n % 4096 / 256, by omega⟩), by show 256 * (n % 4096 / 256) + 4096 * (n / 4096) ≤ n; omega,
    by show n < 256 * (n % 4096 / 256) + 4096 * (n / 4096) + 256; omega⟩

theorem inSets_disjoint : ∀ p ∈ (Finset.univ : Finset (Fin 2 × Fin 16)), ∀ q ∈ (Finset.univ : Finset (Fin 2 × Fin 16)), p ≠ q → Disjoint (inSet p) (inSet q) :=
  fun _ _ _ _ h => Finset.disjoint_left.mpr fun _ h1 h2 => h (run_inj (mem_inSet.mp h1) (mem_inSet.mp h2))
theorem outSets_disjoint : ∀ p ∈ (Finset.univ : Finset (Fin 2 × Fin 16)), ∀ q ∈ (Finset.univ : Finset (Fin 2 × Fin 16)), p ≠ q → Disjoint (outSet p) (outSet q) :=
  fun _ _ _ _ h => Finset.disjoint_left.mpr fun _ h1 h2 => h (run_inj (mem_outSet.mp h1) (mem_outSet.mp h2))
theorem inSets_cover : (Finset.univ : Finset (Fin 2 × Fin 16)).biUnion inSet = Finset.univ :=
  Finset.eq_univ_iff_forall.mpr fun j => by
    obtain ⟨p, hp⟩ := run_cover (n := (j 1).val) (j 1).isLt
    exact Finset.mem_biUnion.mpr ⟨p, Finset.mem_univ _, mem_inSet.mpr hp⟩
theorem outSets_cover : (Finset.univ : Finset (Fin 2 × Fin 16)).biUnion outSet = Finset.univ :=
  Finset.eq_univ_iff_forall.mpr fun j => by
    obtain ⟨p, hp⟩ := run_cover (n := (j 1).val) (j 1).isLt
    exact Finset.mem_biUnion.mpr ⟨p, Finset.mem_univ _, mem_outSet.mpr hp⟩

/-- The logits' array, run by run; the sums' array likewise. -/
theorem xPts_runs (d : Dev nD) (f : Buf (Elt F) (xLoc d)) :
    (xLoc d ↦{fullShare} f : sProp 𝕄) = bigSep Finset.univ fun p : Fin 2 × Fin 16 => xLoc d ↦[inSet p]{fullShare} f := by
  rw [← pointsTo_biUnion Finset.univ (ℓ := xLoc d) inSet inSets_disjoint, inSets_cover]; try rfl
theorem oPts_runs (d : Dev nD) (f : Buf (Elt F) (oLoc d)) :
    (oLoc d ↦{fullShare} f : sProp 𝕄) = bigSep Finset.univ fun p : Fin 2 × Fin 16 => oLoc d ↦[outSet p]{fullShare} f := by
  rw [← pointsTo_biUnion Finset.univ (ℓ := oLoc d) outSet outSets_disjoint, outSets_cover]; try rfl

variable [FloatOps F]

/-! ## What the call takes and brings back -/

section Payload

variable (X : (d : Dev nD) → Buf (Elt F) (xLoc d))

/-- What a tile is handed: its columns of the logits, and its columns of the sums at any contents. -/
abbrev goP (d : Dev nD) (p : Fin 2 × Fin 16) : sProp 𝕄 :=
  iprop((xLoc d ↦[inSet p]{fullShare} X d) ∗ ∃ f, oLoc d ↦[outSet p]{fullShare} f)
/-- What it gives back: the sums' columns now hold each column's two largest logits, added. -/
abbrev tdP (d : Dev nD) (p : Fin 2 × Fin 16) : sProp 𝕄 :=
  iprop((xLoc d ↦[inSet p]{fullShare} X d) ∗ oLoc d ↦[outSet p]{fullShare} (rowTop2 (X d) : Buf (Elt F) (oLoc d)))

/-- The call's handshakes carry the tiles' shares. -/
def P : (K (F := F)).Pay (nD := nD) (Val := Elt F) (Name := ℕ) (U := UU) where
  st := fun q d c => match q with | 0 => bigSep Finset.univ fun i : Fin 16 => goP X d (⟨c.val, c.isLt⟩, i)
  dn := fun q d c => match q with | 0 => bigSep Finset.univ fun i : Fin 16 => tdP X d (⟨c.val, c.isLt⟩, i)
  go := fun q d c i => match q with | 0 => goP X d (⟨c.val, c.isLt⟩, ⟨i.val, i.isLt⟩)
  td := fun q d c i => match q with | 0 => tdP X d (⟨c.val, c.isLt⟩, ⟨i.val, i.isLt⟩)
  x := fun _ _ => iprop(emp)

instance P_storable : (P (F := F) X).IsStorable where
  st q d c := match q with
    | 0 => (inferInstance : BI.Storable (upEmb : UEmb _ 𝕄) (bigSep Finset.univ fun i : Fin 16 => goP X d (⟨c.val, c.isLt⟩, i)))
  dn q d c := match q with
    | 0 => (inferInstance : BI.Storable (upEmb : UEmb _ 𝕄) (bigSep Finset.univ fun i : Fin 16 => tdP X d (⟨c.val, c.isLt⟩, i)))
  go q d c i := match q with
    | 0 => (inferInstance : BI.Storable (upEmb : UEmb _ 𝕄) (goP X d (⟨c.val, c.isLt⟩, ⟨i.val, i.isLt⟩)))
  td q d c i := match q with
    | 0 => (inferInstance : BI.Storable (upEmb : UEmb _ 𝕄) (tdP X d (⟨c.val, c.isLt⟩, ⟨i.val, i.isLt⟩)))

theorem defs₀_vector (c : Fin τ.nSC) (s : Fin τ.nSub) :
    defs₀ (F := F) (.scVector c s) 1 ()
      = SparseCore.onTile hcore1 hsub1 (fun c s => cc1_run (coordsV c s)
          (Memref.whole main_v3_scv) (Memref.isWhole_whole _) (Memref.whole main_v4_scv) (Memref.isWhole_whole _)
          (Memref.whole cc1_scoped0) (Memref.isWhole_whole _) cc1_scoped1 (Memref.whole cc1_scoped2) (Memref.isWhole_whole _) cc1_scoped3) ⟨⟩ c s := rfl

/-- What a run leaves on a tile's columns, read back, fixes the contents there. -/
theorem out_fix (d : Dev nD) (p : Fin 2 × Fin 16) (f : Buf (Elt F) (oLoc d)) (g : Buf (Elt F) (xLoc d))
    (h : (outBlk (coordsV p.1 p.2)).view.read (Elt F) f = rowTop2 ((inBlk (coordsV p.1 p.2)).view.read (Elt F) g)) :
    (oLoc d ↦[outSet p]{fullShare} f : sProp 𝕄) = oLoc d ↦[outSet p]{fullShare} (rowTop2 g : Buf (Elt F) (oLoc d)) := by
  refine pointsTo_congr fun j hj => ?_
  obtain ⟨y, -, rfl⟩ := Finset.mem_map.mp hj
  refine (congrFun h y).trans ?_
  show top2 _ = top2 _
  congr 1; funext e
  show g ((inBlk (coordsV p.1 p.2)).view.emb _) = g _
  refine congrArg g (funext fun (a : Fin 2) => ?_)
  match a with
  | 0 => exact Fin.ext (by show 0 + 1 * e.val = e.val; omega)
  | 1 => rfl

theorem tile_post (d : Dev nD) (p : Fin 2 × Fin 16) {thr : Thread nD τ} {B C : sProp 𝕄} {O : CellTallies nD τ sig (HIx 1)} {W : Waits sig (HIx 1)} {q : Fin 1} :
    iprop((inP d (coordsV p.1 p.2) (X d) ∗ ∃ f, ⌜(outBlk (coordsV p.1 p.2)).view.read (Elt F) f = rowTop2 ((inBlk (coordsV p.1 p.2)).view.read (Elt F) (X d))⌝ ∗ outP d (coordsV p.1 p.2) f)
        ∗ B ∗ C ∗ ∃ W', ⌜∀ p ∈ W', p ∈ W ∨ p.2 = none⌝ ∗ owes thr O W')
      ⊢ iprop(tdP X d p ∗ B ∗ C ∗ ∃ W', ⌜∀ p ∈ W', p ∈ W ∨ p.2 = none ∨ p.2 = some q⌝ ∗ owes thr O W') := by
  iintro ⟨⟨Hx, %f, %hf, Ho⟩, HB, HC, %W', %hW', HO⟩
  isplitl [Hx Ho]
  · isplitl [Hx]; · iexact Hx
    rw [← out_fix d p f (X d) hf]
    iexact Ho
  isplitl [HB]; · iexact HB
  isplitl [HC]; · iexact HC
  iexists W'; isplitr
  · ipureintro; exact fun p hp => (hW' p hp).imp_right Or.inl
  · iexact HO

/-- Every tile's run. -/
theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (X d) O W hO).trans
    (wp_mono frame _ _ fun _ => tile_post X d (⟨c.val, c.isLt⟩, ⟨i.val, i.isLt⟩))

theorem nSub_zero : (K (F := F)).nSub 0 = 16 := rfl
theorem nCore_zero : (K (F := F)).nCore 0 = 2 := rfl

theorem bigSep_tasks (Φ : Fin 16 → sProp 𝕄) :
    (bigSep Finset.univ fun i : Fin ((K (F := F)).nSub 0) => Φ ⟨i.val, i.isLt⟩) = bigSep Finset.univ Φ :=
  bigSep_congr fun _ _ => congrArg Φ (Fin.ext rfl)
theorem bigSep_cores (Φ : Fin 2 → sProp 𝕄) :
    (bigSep Finset.univ fun i : Fin ((K (F := F)).nCore 0) => Φ ⟨i.val, i.isLt⟩) = bigSep Finset.univ Φ :=
  bigSep_congr fun _ _ => congrArg Φ (Fin.ext rfl)

/-- A core's share is its tiles'. -/
theorem vecSplit : (K (F := F)).VecSplit' (P X) 0 := by
  intro d c
  show (bigSep Finset.univ fun i : Fin 16 => goP X d (⟨c.val, c.isLt⟩, i)) ⊢ |={Set.univ}=> iprop(
      (bigSep Finset.univ fun i : Fin ((K (F := F)).nSub 0) => goP X d (⟨c.val, c.isLt⟩, ⟨i.val, i.isLt⟩))
      ∗ ((bigSep Finset.univ fun i : Fin ((K (F := F)).nSub 0) => tdP X d (⟨c.val, c.isLt⟩, ⟨i.val, i.isLt⟩))
          -∗ (bigSep Finset.univ fun i : Fin 16 => tdP X d (⟨c.val, c.isLt⟩, i))))
  rw [bigSep_tasks (F := F) (fun i => goP X d (⟨c.val, c.isLt⟩, i)), bigSep_tasks (F := F) (fun i => tdP X d (⟨c.val, c.isLt⟩, i))]
  iintro H; imodintro
  isplitl [H]; · iexact H
  iintro H; iexact H

/-- The two arrays, split among the cores. -/
theorem st_of_arrays (d : Dev nD) (f : Buf (Elt F) (oLoc d)) :
    iprop((xLoc d ↦{fullShare} X d) ∗ oLoc d ↦{fullShare} f)
      ⊢ (bigSep Finset.univ fun c : Fin ((K (F := F)).nCore 0) => (P X).st 0 d c : sProp 𝕄) := by
  show _ ⊢ (bigSep Finset.univ fun c : Fin ((K (F := F)).nCore 0) => bigSep Finset.univ fun i : Fin 16 => goP X d (⟨c.val, c.isLt⟩, i))
  rw [bigSep_cores (F := F) (fun c => bigSep Finset.univ fun i : Fin 16 => goP X d (c, i)),
    ← bigSep_univ_prod (fun p : Fin 2 × Fin 16 => goP X d p), bigSep_sep', xPts_runs, oPts_runs]
  exact sep_mono .rfl (bigSep_mono fun p _ => exists_intro (PROP := sProp 𝕄) f)

/-- The cores' results, gathered: the sums' array holds each column's two largest logits, added. -/
theorem arrays_of_dn (d : Dev nD) :
    (bigSep Finset.univ fun c : Fin ((K (F := F)).nCore 0) => (P X).dn 0 d c : sProp 𝕄)
      ⊢ iprop((xLoc d ↦{fullShare} X d) ∗ oLoc d ↦{fullShare} (rowTop2 (X d) : Buf (Elt F) (oLoc d))) := by
  show (bigSep Finset.univ fun c : Fin ((K (F := F)).nCore 0) => bigSep Finset.univ fun i : Fin 16 => tdP X d (⟨c.val, c.isLt⟩, i)) ⊢ _
  rw [bigSep_cores (F := F) (fun c => bigSep Finset.univ fun i : Fin 16 => tdP X d (c, i)),
    ← bigSep_univ_prod (fun p : Fin 2 × Fin 16 => tdP X d p), bigSep_sep', ← xPts_runs, ← oPts_runs]

end Payload

end Cert.Proof.Top2
-- ==== Proof.Region.lean ====
/-
  A TensorCore kernel's region of the program, entered and left while the core still owes what it owes the SparseCore
  call's handshakes, and with every wait it has recorded below those.
-/
module

public import proofs.«01_k».proof.Proof.Setup
public import proofs.«01_k».proof.Proof.Gen.KernelIdeal.Launch
public import proofs.«01_k».proof.Proof.Gen.KernelIdeal.Points
public import Idealize.ShloMosaic.Lib.Pipeline.RegionArraysD
public import Idealize.ShloMosaic.Lib.Pipeline.RegionsLoop
public import Idealize.ShloMosaic.Lib.Tactic
public import Idealize.ShloMosaic.Lib.Pipeline.Frame
public import Idealize.ShloMosaic.Lib.Pipeline.FrameBody

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation OwnSemFacts LaunchFacts RegionSeg restRefs arrRef ownSems0 scopedRest)

variable {F : FTy → Type} [FloatOps F]

local notation "𝕄" => MT nD τ sig (HIx 1) (Elt F) ℕ UU ℕ

/-- No pipeline prefetches a table. -/
abbrev adm (p : Fin 3) : (pcfgs (F := F) p).Adm := (cfgs p).toPCfg_adm

/-- The proof data of one pipeline on one core. -/
abbrev DatOf (F : FTy → Type) (cfg : Cfg sig Λ₀) (c : Dev nD) : Type := Dat τ (Elt F) (HIx 1) ℕ UU ℕ cfg c

/-- Proof data for a pipeline that is not entered: anything. -/
def idleDat {cfg : Cfg sig Λ₀} (c : Dev nD) : DatOf F cfg c where
  A _ := fun _ => Classical.arbitrary _
  after _ _ := fun _ => Classical.arbitrary _
  Φ _ := BI.emp
  q _ := fullShare
  owed _ := 0

/-- The waits whose level is at most `b`. -/
def below (c : Dev nD) (b : ℕ) : Set (SemLoc sig × HIx 1) := {q | (K (F := F)).lev (T c, q.1) q.2 ≤ b}

variable (F) in
/-- What the core owes, its recorded waits at level at most `b`. -/
abbrev owesBelow (c : Dev nD) (O : CellTallies nD τ sig (HIx 1)) (b : ℕ) : sProp 𝕄 :=
  iprop(∃ W, ⌜(K (F := F)).WBelow (T c) W b⌝ ∗ owes (T c) O W)

section

variable {cfg : Cfg sig Λ₀} {c : Dev nD} (dat : DatOf F cfg c) {O : CellTallies nD τ sig (HIx 1)} {b : ℕ} {t : Fin (cfg.N + 1)}

theorem owesAt_of_below (ho : dat.owed t = O) (hr : dat.recorded t = below (F := F) c b) : owesBelow F c O b ⊢ dat.owesAt none t := by
  unfold Dat.owesAt Pipeline.owesWithin Dat.bound
  rw [ho, hr]
  iintro ⟨%W, %hW, HO⟩; iexists W; isplitr
  · ipureintro; exact fun q hq => Or.inl (hW q hq)
  iexact HO

theorem below_of_owesAt (ho : dat.owed t = O) (hr : dat.recorded t = below (F := F) c b) : dat.owesAt none t ⊢ owesBelow F c O b := by
  unfold Dat.owesAt Pipeline.owesWithin Dat.bound
  rw [ho, hr]
  iintro ⟨%W, %hW, HO⟩; iexists W; isplitr
  · ipureintro
    intro q hq
    rcases hW hq with h | ⟨w, s, h⟩
    · exact h
    · rw [h]; exact Nat.zero_le _
  iexact HO

end

/-- Waits at level 0 added to waits below `b` stay below `b`. -/
theorem below_of_grown {c : Dev nD} {b : ℕ} {W W' : Waits sig (HIx 1)} (h : (K (F := F)).WBelow (T c) W b)
    (h' : ∀ q ∈ W', q ∈ W ∨ q.2 = none) : (K (F := F)).WBelow (T c) W' b := by
  intro q hq
  rcases h' q hq with hq | hq
  · exact h q hq
  · rw [hq]; exact Nat.zero_le _

variable (pdats : (p : Fin 3) → (c : Dev nD) → Dat τ (Elt F) (HIx 1) ℕ UU ℕ (Pipeline.pin (pcfgs (F := F)) adm p) c) (p : Fin 3)

-- the arrays' lemmas are stated at the pinned configuration
set_option backward.isDefEq.respectTransparency.types false in
/-- Pipeline `p`'s region over the core's unscoped buffers: entered at contents `V`, left at `V'`, which has the windows'
    arrays as the write-backs leave them and the rest as before; the body is handed its own semaphores at zero and the
    operands `H` it copies from, and gives them back. -/
def region {Kn : Type} [Fintype Kn] (osem : Kn → SemLoc sig) (ho : OwnSemFacts (cfgs p).spec osem)
    (H : Finset (Ref sig .tc)) (hH : H ⊆ restRefs sig (cfgs p).spec) (kit : LaunchFacts (nD := nD) (τ := τ) cfgs p)
    (O : Dev nD → CellTallies nD τ sig (HIx 1)) (b : ℕ) (hO : ∀ c g, O c g none = 0)
    (hOb : ∀ c g ι, 0 < O c g ι → b < (K (F := F)).lev g ι)
    (hbody : ∀ c, BodyObligation (pdats p c) (defs₀ (F := F)) 𝒱₀ none Set.univ)
    (howed : ∀ c t, (pdats p c).owed t = O c) (hrec : ∀ c t, (pdats p c).recorded t = below (F := F) c b)
    (hshare : ∀ c w, (pdats p c).share w = fullShare)
    (V V' : (c : Dev nD) → (r : Ref sig .tc) → Buf (Elt F) ((c.tc : Thread nD τ).loc r))
    (hA : ∀ c w, (pdats p c).A w = V c (arrRef (cfgs p).spec w))
    (hF : ∀ c w, (pdats p c).arrAt w (cfgs p).N = V' c (arrRef (cfgs p).spec w))
    (hrest : ∀ c r, r ∉ Finset.univ.image (arrRef (cfgs p).spec) → V' c r = V c r)
    (hin : ∀ c : Dev nD, iprop(scopedRest (cfgs p).spec c ∗ ownSems0 osem c ∗ (bigSep H fun r => ((c.tc : Thread nD τ).loc r) ↦{fullShare} V c r)
        ∗ Transfers.MayWaits (c.tc : Thread nD τ) none (O c)) ⊢ (pdats p c).Φ 0)
    (hout : ∀ c : Dev nD, (pdats p c).Φ (Fin.last (cfgs p).N) ⊢ iprop(scopedRest (cfgs p).spec c ∗ ownSems0 osem c
        ∗ (bigSep H fun r => ((c.tc : Thread nD τ).loc r) ↦{fullShare} V c r))) :
    RegionSeg (pcfgs (F := F)) adm pdats none (defs₀ (F := F)) 𝒱₀ (K (F := F)).L (K (F := F)).lev p where
  win := kit.win.to₀
  block_pos := kit.block_pos
  stage_whole := kit.stage_whole
  K := Kn
  osem := osem
  ho := ho
  hbody c := (hbody c).loose
  hwaits c := Pipeline.cellsWaits_of_cut (Pipeline.pin (pcfgs (F := F)) adm) pdats none p c b (O c) (howed c)
    (fun _ _ => Finset.mem_univ _) (fun _ _ => Nat.zero_le _) (fun g i h => ⟨Finset.mem_univ _, hOb c g i h⟩)
  pre c := iprop(unscopedBufs c (V c) ∗ owesBelow F c (O c) b)
  post c := iprop(unscopedBufs c (V' c) ∗ owesBelow F c (O c) b)
  X c := iprop(ownSems0 osem c ∗ (bigSep H fun r => ((c.tc : Thread nD τ).loc r) ↦{fullShare} V c r) ∗ Transfers.MayWaits (c.tc : Thread nD τ) none (O c))
  Y c := bigSep H fun r => ((c.tc : Thread nD τ).loc r) ↦{fullShare} V c r
  Z c := bigSep (restRefs sig (cfgs p).spec \ H) fun r => ((c.tc : Thread nD τ).loc r) ↦{fullShare} V c r
  hentry c := by
    have hsplit := Pipeline.arrays_of_unscopedBufs (p := p) (pcfgs (F := F)) adm pdats kit.win kit.arr_whole c (hshare c) (V c) (hA c)
    have hr : (Pipeline.unscopedRest (cfgs p).spec c (V c) : sProp 𝕄)
        = iprop((bigSep H fun r => ((c.tc : Thread nD τ).loc r) ↦{fullShare} V c r)
          ∗ bigSep (restRefs sig (cfgs p).spec \ H) fun r => ((c.tc : Thread nD τ).loc r) ↦{fullShare} V c r) :=
      bigSep_sdiff_split hH
    rw [Pipeline.prefHeld_of_none _ rfl]
    iintro ⟨⟨Hub, HO⟩, Hos, HL⟩
    ihave H := hsplit $$ Hub
    icases H with ⟨Ha, Hrest⟩
    ihave Hrest := (entails_of_eq hr) $$ Hrest
    icases Hrest with ⟨HH, Hrest⟩
    ihave HM := ((K (F := F)).mayWaits_none (thr := (c.tc : Thread nD τ)) (hO c)) $$ HL
    imodintro
    isplitl [Ha]; · iexact Ha
    isplitr; · iempintro
    isplitl [HO]; · iapply (owesAt_of_below (pdats p c) (howed c 0) (hrec c 0)); iexact HO
    isplitl [Hos HH HM]
    · isplitl [Hos]; · iexact Hos
      isplitl [HH]; · iexact HH
      iexact HM
    iexact Hrest
  hin c := (show _ ⊢ iprop(scopedRest (cfgs p).spec c ∗ ownSems0 osem c ∗ (bigSep H fun r => ((c.tc : Thread nD τ).loc r) ↦{fullShare} V c r)
        ∗ Transfers.MayWaits (c.tc : Thread nD τ) none (O c)) from by
    iintro ⟨⟨Hos, HH, HM⟩, -, Hr⟩
    isplitl [Hr]; · iexact Hr
    isplitl [Hos]; · iexact Hos
    isplitl [HH]; · iexact HH
    iexact HM).trans (hin c)
  hout c := (hout c).trans (by
    iintro ⟨Hr, Hos, HH⟩
    isplitl [HH]; · iexact HH
    isplitl [Hos]; · iexact Hos
    iexact Hr)
  hexit c := by
    have hjoin := Pipeline.unscopedBufs_of_arrays (p := p) (pcfgs (F := F)) adm (Ix := HIx 1) (Name := ℕ) (U := UU) (Lvl := ℕ) kit.win kit.arr_whole c
      pdats (hshare c) (V c) (V' c) ((pdats p c).arrAt · (cfgs p).N) (hF c) (hrest c)
    have hr : (Pipeline.unscopedRest (cfgs p).spec c (V c) : sProp 𝕄)
        = iprop((bigSep H fun r => ((c.tc : Thread nD τ).loc r) ↦{fullShare} V c r)
          ∗ bigSep (restRefs sig (cfgs p).spec \ H) fun r => ((c.tc : Thread nD τ).loc r) ↦{fullShare} V c r) :=
      bigSep_sdiff_split hH
    iintro ⟨Ha, HO, HH, Hrest⟩
    imodintro
    isplitl [Ha HH Hrest]
    · iapply hjoin
      isplitl [Ha]; · iexact Ha
      iapply (entails_of_eq hr.symm)
      isplitl [HH] <;> iassumption
    iapply (below_of_owesAt (pdats p c) (howed c (Fin.last _)) (hrec c (Fin.last _))); iexact HO

end Cert.Proof.Top2
-- ==== Proof.Gate.lean ====
/-
  The gate and cast kernel: point `t` casts its 1024 rows of `x` and multiplies them with the cast gate weights.
-/
module

public import proofs.«01_k».proof.Proof.Region
public import Idealize.ShloMosaic.Lib.VecWindow

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation OwnSemFacts LaunchFacts RegionSeg restRefs arrRef ownSems0 scopedRest)

variable {F : FTy → Type} [FloatOps F]

local notation "𝕄" => MT nD τ sig (HIx 1) (Elt F) ℕ UU ℕ

/-- The body, from the rows `X1` and the gate weights `X2`: it leaves the cast rows and their logits in its two outputs. -/
theorem gate_run (c : Dev nD) (i : grid0.Coords) (M1 : Memref sig .tc .vmem S1024x4096 .f32) (h1 : M1.IsWhole)
    (M2 : Memref sig .tc .vmem S4096x8 .bf16) (h2 : M2.IsWhole) (M3 : Memref sig .tc .vmem S1024x4096 .bf16) (h3 : M3.IsWhole)
    (M4 : Memref sig .tc .vmem S1024x8 .f32) (h4 : M4.IsWhole) (X1 : Vec F S1024x4096 .f32) (X2 : Vec F S4096x8 .bf16)
    (d3 : Vec F S1024x4096 .bf16) (d4 : Vec F S1024x8 .f32) (E : Set ℕ) (Q : PUnit → sProp 𝕄) :
    iprop(owns (c : Thread nD τ) M1 fullShare X1 ∗ owns (c : Thread nD τ) M2 fullShare X2 ∗ owns (c : Thread nD τ) M3 fullShare d3
        ∗ owns (c : Thread nD τ) M4 fullShare d4
        ∗ (iprop(owns (c : Thread nD τ) M1 fullShare X1 ∗ owns (c : Thread nD τ) M2 fullShare X2
          ∗ owns (c : Thread nD τ) M3 fullShare (k0_pay1 X1) ∗ owns (c : Thread nD τ) M4 fullShare (k0_pay2 X1 X2)) -∗ Q ⟨⟩))
      ⊢ wp frame (wpE (defs₀ (F := F)) 𝒱₀ (c : Thread nD τ) none) E (cc0__gate_cast_body i M1 h1 M2 h2 M3 h3 M4 h4) Q := by
  rw [cc0__gate_cast_body_eq_skeleton]
  unfold cc0__gate_cast_body_skel owns
  iintro ⟨⟨%f1, %e1, H1⟩, ⟨%f2, %e2, H2⟩, ⟨%f3, -, H3⟩, ⟨%f4, -, H4⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists _; isplitr; swap; (· iexact H3); ipureintro
                  exact (View.read_writes_full _ _ _ _ _).trans (by rw [View.readAt_full, e1])
  iexists _; isplitr; swap; (· iexact H4); ipureintro
  exact (View.read_writes_full _ _ _ _ _).trans (by rw [View.readAt_full, View.readAt_full, e1, e2])

section

variable (V : (c : Dev nD) → (r : Ref sig .tc) → Buf (Elt F) ((c.tc : Thread nD τ).loc r))
  (O : Dev nD → CellTallies nD τ sig (HIx 1)) (b : ℕ)

/-- Window `w`'s block at point `t`, of the arrays as the region finds them. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (arrRef spec0 w))

/-- The gate kernel's proof data: the inputs' blocks stay, the outputs' are the cast rows and their logits. -/
def dat0 (c : Dev nD) : DatOf F cfg0 c where
  A w := V c (arrRef spec0 w)
  after w t := match w with
    | ⟨0, _⟩ => blk0 V c 0 t
    | ⟨1, _⟩ => blk0 V c 1 t
    | ⟨2, _⟩ => k0_pay1 (blk0 V c 0 t)
    | ⟨3, _⟩ => k0_pay2 (blk0 V c 0 t) (blk0 V c 1 t)
  Φ _ := scopedRest (Ix := HIx 1) (Name := ℕ) (U := UU) (Lvl := ℕ) (Val := Elt F) spec0 c
  q _ := fullShare
  owed _ := O c
  recorded _ := below (F := F) c b

theorem before0_0 (c : Dev nD) (t : Fin cfg0.N) (d) : (dat0 V O b c).before 0 t d = blk0 V c 0 t :=
  (dat0 V O b c).before_in_eq_fetched 0 rfl (fun _ => rfl) (fun _ _ _ => rfl) (fun _ => rfl) t d
theorem before0_1 (c : Dev nD) (t : Fin cfg0.N) (d) : (dat0 V O b c).before 1 t d = blk0 V c 1 t :=
  (dat0 V O b c).before_in_eq_fetched 1 rfl (fun _ => rfl) (fun _ _ _ => rfl) (fun _ => rfl) t d

theorem defs₀_row0 (t : Fin cfg0.N) : defs₀ (F := F) .tc cfg0.body (cfg0.bodyArgs t (cfg0.slots t)) = bodyAt0 t := rfl

/-- The gate kernel's body at any point. -/
theorem body0 (c : Dev nD) : BodyObligation (dat0 V O b c) (defs₀ (F := F)) 𝒱₀ none Set.univ := fun t => by
  rw [bigSep_W0, bigSep_W0, defs₀_row0]
  simp only [before0_0, before0_1]
  rw [show (dat0 V O b c).Φ t.succ = (dat0 V O b c).Φ t.castSucc from rfl,
    show (dat0 V O b c).owesAt none t.succ = (dat0 V O b c).owesAt none t.castSucc from rfl]
  iintro ⟨HΦ, Howes, ⟨%d0, H0⟩, ⟨%d1, H1⟩, ⟨%d2, H2⟩, ⟨%d3, H3⟩⟩
  iapply (gate_run c _ _ _ _ _ _ _ _ _ (blk0 V c 0 t) (blk0 V c 1 t) _ _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end

end Cert.Proof.Top2
-- ==== Proof.HBody.lean ====
/-
  The hidden-layer kernel: point `(t, m)` multiplies the 1024 rows `m` of the cast `x` with slab `t` of the first shared
  weights, whose next slab is fetched and cast beside it.
-/
module

public import proofs.«01_k».proof.Proof.Region
public import Idealize.ShloMosaic.Lib.VecWindow

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation OwnSemFacts LaunchFacts RegionSeg restRefs arrRef ownSems0 scopedRest)

variable {F : FTy → Type} [FloatOps F]

local notation "𝕄" => MT nD τ sig (HIx 1) (Elt F) ℕ UU ℕ
local notation "uW" => (Memref.whole Cert.KernelIdeal.main_arg1 : Memref Cert.KernelIdeal.sig Kind.tc Space.hbm Cert.KernelIdeal.S4096x4096 EltTy.f32)
local notation "sW" => (Memref.whole Cert.KernelIdeal.cc2_scratch0 : Memref Cert.KernelIdeal.sig Kind.tc Space.vmem Cert.KernelIdeal.S512x4096 EltTy.f32)
local notation "rW" => (Memref.whole Cert.KernelIdeal.cc2_scratch1 : Memref Cert.KernelIdeal.sig Kind.tc Space.vmem Cert.KernelIdeal.S2x512x4096 EltTy.bf16)

theorem slab_inb : ∀ t : Fin 8, ∀ a, (![512 * t.val, 0] : Fin 2 → Nat) a + S512x4096.size a ≤ S4096x4096.size a := by decide
/-- Slab `t` of the first shared weights: rows `512 t` to `512 t + 511`. -/
def slab (t : Fin 8) : Memref sig .tc .hbm S512x4096 .f32 :=
  (uW).slice (Rect.unit (s := S4096x4096) ![512 * t.val, 0] S512x4096.size (slab_inb t)) (fun _ => rfl)

theorem slab_congr {off : Fin 2 → Nat} {t : Fin 8} (e : off = ![512 * t.val, 0]) (hh hs) :
    (uW).slice (Rect.unit (s := S4096x4096) off S512x4096.size hh) hs = slab t := by subst e; rfl

theorem next_lt2 {i : grid2.Coords} (h : k2_cond2 i = 1#1) : (i 0).val + 1 < 8 := by revert i; decide +kernel
theorem next_lt3 {i : grid2.Coords} (h : k2_cond3 i = 1#1) : (i 0).val + 1 < 8 := by revert i; decide +kernel

@[sl_canon] theorem slab_first (hh hs) : (uW).slice (Rect.unit (s := S4096x4096) ![0, 0] S512x4096.size hh) hs = slab 0 := slab_congr (t := 0) rfl _ _
@[sl_canon] theorem slab_next1 (i : grid2.Coords) (h : k2_cond2 i = 1#1) (hs) :
    (uW).slice (Rect.unit (s := S4096x4096) (k2_off1 i) S512x4096.size (k2_off1_inb i h)) hs = slab ⟨(i 0).val + 1, next_lt2 h⟩ :=
  slab_congr ((k2_off1_eq i).trans (by rw [Nat.mul_add])) _ _
@[sl_canon] theorem slab_next2 (i : grid2.Coords) (h : k2_cond3 i = 1#1) (hs) :
    (uW).slice (Rect.unit (s := S4096x4096) (k2_off2 i) S512x4096.size (k2_off2_inb i h)) hs = slab ⟨(i 0).val + 1, next_lt3 h⟩ :=
  slab_congr ((k2_off2_eq i).trans (by rw [Nat.mul_add])) _ _

theorem k2_off3_eq : ∀ i : grid2.Coords, k2_off3 i = ![((i 0).val + 1) % 2, 0, 0] := by decide +kernel
theorem k2_off4_eq : ∀ i : grid2.Coords, k2_off4 i = ![(i 0).val % 2, 0, 0] := by decide +kernel

instance closedOff_k2_off3 (i : grid2.Coords) : ClosedOff (k2_off3 i) := ⟨![((i 0).val + 1) % 2, 0, 0], k2_off3_eq i⟩
instance closedOff_k2_off4 (i : grid2.Coords) : ClosedOff (k2_off4 i) := ⟨![(i 0).val % 2, 0, 0], k2_off4_eq i⟩

/-- The condition of the first point, as the body computes it. -/
abbrev k2_first (i : grid2.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem slot_inb : ∀ t : Fin 8, ∀ a, (![t.val % 2, 0, 0] : Fin 3 → Nat) a + S1x512x4096.size a ≤ S2x512x4096.size a := by decide

section Body

variable (c : Dev nD) (X : Buf (Elt F) ((c : Thread nD τ).loc main_arg1))

/-- What slot `t % 2` of the cast slabs holds once slab `t` is in it. -/
def slabCast (t : Fin 8) : Vec F S1x512x4096 .bf16 := k2_pay1 ((slab t).view.read (Elt F) X)

/-- Slab `t`, cast, lies in its slot. -/
def SlabIn (t : Fin 8) (f : Buf (Elt F) ((rW).view.loc (c : Thread nD τ))) : Prop :=
  (rW).view.readAt (Elt F) (Rect.unit (s := S2x512x4096) ![t.val % 2, 0, 0] S1x512x4096.size (slot_inb t)).toLoadRect f = slabCast c X t

variable {c X}

theorem SlabIn.load {t : Fin 8} {f : Buf (Elt F) ((rW).view.loc (c : Thread nD τ))} (h : SlabIn c X t f) {off : Fin 3 → Nat} (e : off = ![t.val % 2, 0, 0]) (hh) :
    (rW).view.readAt (Elt F) (Rect.unit (s := S2x512x4096) off S1x512x4096.size hh).toLoadRect f = slabCast c X t := by subst e; exact h

theorem SlabIn.stored {t : Fin 8} (f : Buf (Elt F) ((rW).view.loc (c : Thread nD τ))) {off : Fin 3 → Nat} (e : off = ![t.val % 2, 0, 0]) (hh)
    {w : Vec F S1x512x4096 .bf16} (hw : w = slabCast c X t) :
    SlabIn c X t ((rW).view.writes (Elt F) f [⟨Rect.unit (s := S2x512x4096) off S1x512x4096.size hh, w⟩]) := by
  subst e; subst hw
  funext x
  exact View.read_writes_cons_emb _ _ _ _ _ _

theorem SlabIn.kept {t u : Fin 8} {f : Buf (Elt F) ((rW).view.loc (c : Thread nD τ))} (h : SlabIn c X t f) {off : Fin 3 → Nat} (e : off = ![u.val % 2, 0, 0]) (hh)
    (w : Vec F S1x512x4096 .bf16) (hne : t.val % 2 ≠ u.val % 2) :
    SlabIn c X t ((rW).view.writes (Elt F) f [⟨Rect.unit (s := S2x512x4096) off S1x512x4096.size hh, w⟩]) := by
  subst e
  refine Eq.trans ?_ h
  funext x
  have hx : (x 0).val = 0 := by have := (x 0).isLt; change (x 0).val < 1 at this; omega
  refine View.read_writes_cons_miss_of_axis _ _ _ _ _ 0 (u.val % 2) 1 rfl rfl rfl ?_
  show t.val % 2 + 1 * (x 0).val < u.val % 2 ∨ u.val % 2 + 1 ≤ t.val % 2 + 1 * (x 0).val
  omega

variable (c X)

/-- Slab `t` on its way into the scratch. -/
def slabFlight (t : Fin 8) : sProp 𝕄 :=
  iprop(∃ f : Buf (Elt F) ((sW).view.loc (c : Thread nD τ)), ⌜(sW).view.read (Elt F) f = (slab t).view.read (Elt F) X⌝
    ∗ Transfers.Flight countersEmb (c : Thread nD τ) (SemLoc.dma cc2_scratch2.sem) (none : HIx 1) 262144
        iprop(((sW).view.loc (c : Thread nD τ) ↦{fullShare} f) ∗ (slab t).view.loc (c : Thread nD τ) ↦[(slab t).view.set]{fullShare} X))

variable (i : grid2.Coords) (M2 : Memref sig .tc .vmem S1024x4096 .bf16) (h2 : M2.IsWhole)
    (M4 : Memref sig .tc .vmem S1024x512 .bf16) (h4 : M4.IsWhole) (X2 : Vec F S1024x4096 .bf16) (d4 : Vec F S1024x512 .bf16)

/-- A point that touches no copy: it leaves its block of the hidden layer. -/
theorem h_run_plain (Q : PUnit → sProp 𝕄) (t : Fin 8) (ht : (i 0).val = t.val) (hi1 : ¬ k2_first i = 1#1) (hi2 : ¬ k2_cond2 i = 1#1) (hi3 : ¬ k2_cond3 i = 1#1)
    (f6 : Buf (Elt F) ((rW).view.loc (c : Thread nD τ))) (hf6 : SlabIn c X t f6) :
    iprop(owns (c : Thread nD τ) M2 fullShare X2 ∗ owns (c : Thread nD τ) M4 fullShare d4
        ∗ ((rW).view.loc (c : Thread nD τ) ↦{fullShare} f6)
        ∗ (iprop(owns (c : Thread nD τ) M2 fullShare X2 ∗ owns (c : Thread nD τ) M4 fullShare (k2_pay3 X2 (slabCast c X t))
            ∗ ((rW).view.loc (c : Thread nD τ) ↦{fullShare} f6)) -∗ Q ⟨⟩))
      ⊢ wp frame (wpE (defs₀ (F := F)) 𝒱₀ (c : Thread nD τ) none) Set.univ (cc2__h_body i M2 h2 uW (Memref.isWhole_whole _) M4 h4 sW (Memref.isWhole_whole _) rW (Memref.isWhole_whole _) cc2_scratch2) Q := by
  rw [cc2__h_body_eq_skeleton]
  unfold cc2__h_body_skel owns
  rw [k2_part1_eq_skeleton]
  unfold k2_part1_skel
  rw [dif_neg hi1, dif_neg hi2, dif_neg hi3]
  iintro ⟨⟨%f2, %e2, H2⟩, ⟨%f4, -, H4⟩, H6, Hk⟩
  sl_exec
  sl_step
  iapply Hk
  isplitl [H2]; · iexists f2; isplitr; · ipureintro; exact e2
                  iexact H2
  isplitl [H4]
  · iexists _; isplitr; swap; (· iexact H4); ipureintro
    exact (View.read_writes_full _ _ _ _ _).trans (by rw [View.readAt_full, e2, hf6.load ((k2_off4_eq i).trans (by rw [ht]))])
  iexact H6

/-- A point that starts the copy of the next slab: it leaves its block, and the copy in flight. -/
theorem h_run_send (Q : PUnit → sProp 𝕄) (t u : Fin 8) (ht : (i 0).val = t.val) (hu : t.val + 1 = u.val) (hi1 : ¬ k2_first i = 1#1) (hi2 : k2_cond2 i = 1#1) (hi3 : ¬ k2_cond3 i = 1#1)
    (f5 : Buf (Elt F) ((sW).view.loc (c : Thread nD τ))) (f6 : Buf (Elt F) ((rW).view.loc (c : Thread nD τ))) (hf6 : SlabIn c X t f6) :
    iprop(owns (c : Thread nD τ) M2 fullShare X2 ∗ owns (c : Thread nD τ) M4 fullShare d4
        ∗ ((slab u).view.loc (c : Thread nD τ) ↦[(slab u).view.set]{fullShare} X)
        ∗ ((sW).view.loc (c : Thread nD τ) ↦{fullShare} f5)
        ∗ ((rW).view.loc (c : Thread nD τ) ↦{fullShare} f6)
        ∗ semVal ((c : Thread nD τ), .dma cc2_scratch2.sem) 0
        ∗ (iprop(owns (c : Thread nD τ) M2 fullShare X2 ∗ owns (c : Thread nD τ) M4 fullShare (k2_pay3 X2 (slabCast c X t))
            ∗ ((rW).view.loc (c : Thread nD τ) ↦{fullShare} f6) ∗ slabFlight c X u) -∗ Q ⟨⟩))
      ⊢ wp frame (wpE (defs₀ (F := F)) 𝒱₀ (c : Thread nD τ) none) Set.univ (cc2__h_body i M2 h2 uW (Memref.isWhole_whole _) M4 h4 sW (Memref.isWhole_whole _) rW (Memref.isWhole_whole _) cc2_scratch2) Q := by
  rw [cc2__h_body_eq_skeleton]
  unfold cc2__h_body_skel owns
  rw [k2_part1_eq_skeleton]
  unfold k2_part1_skel
  rw [dif_neg hi1, dif_pos hi2, dif_neg hi3]
  obtain rfl : u = ⟨(i 0).val + 1, next_lt2 hi2⟩ := Fin.ext (by show u.val = (i 0).val + 1; omega)
  iintro ⟨⟨%f2, %e2, H2⟩, ⟨%f4, -, H4⟩, H1, H5, H6, Hs, Hk⟩
  sl_exec
  sl_step
  iapply Hk
  isplitl [H2]; · iexists f2; isplitr; · ipureintro; exact e2
                  iexact H2
  isplitl [H4]
  · iexists _; isplitr; swap; (· iexact H4); ipureintro
    exact (View.read_writes_full _ _ _ _ _).trans (by rw [View.readAt_full, e2, hf6.load ((k2_off4_eq i).trans (by rw [ht]))])
  isplitl [H6]; · iexact H6
  unfold slabFlight
  iexists _; isplitr; swap; (· iexact Hs); ipureintro
  exact View.read_write_univ _ _

/-- A point that waits for the next slab and casts it into the other slot. -/
theorem h_run_wait (Q : PUnit → sProp 𝕄) (t u : Fin 8) (ht : (i 0).val = t.val) (hu : t.val + 1 = u.val) (hi1 : ¬ k2_first i = 1#1) (hi2 : ¬ k2_cond2 i = 1#1) (hi3 : k2_cond3 i = 1#1)
    (f6 : Buf (Elt F) ((rW).view.loc (c : Thread nD τ))) (hf6 : SlabIn c X t f6) (O : CellTallies nD τ sig (HIx 1)) (W : Waits sig (HIx 1)) :
    iprop(owns (c : Thread nD τ) M2 fullShare X2 ∗ owns (c : Thread nD τ) M4 fullShare d4
        ∗ slabFlight c X u ∗ ((rW).view.loc (c : Thread nD τ) ↦{fullShare} f6)
        ∗ (Transfers.MayWaits (c : Thread nD τ) (none : HIx 1) O : sProp 𝕄) ∗ owes (c : Thread nD τ) O W
        ∗ (iprop(owns (c : Thread nD τ) M2 fullShare X2 ∗ owns (c : Thread nD τ) M4 fullShare (k2_pay3 X2 (slabCast c X t))
            ∗ ((slab u).view.loc (c : Thread nD τ) ↦[(slab u).view.set]{fullShare} X)
            ∗ (∃ f : Buf (Elt F) ((sW).view.loc (c : Thread nD τ)), (sW).view.loc (c : Thread nD τ) ↦{fullShare} f)
            ∗ (∃ f6' : Buf (Elt F) ((rW).view.loc (c : Thread nD τ)), ⌜SlabIn c X t f6' ∧ SlabIn c X u f6'⌝ ∗ (rW).view.loc (c : Thread nD τ) ↦{fullShare} f6')
            ∗ semVal ((c : Thread nD τ), .dma cc2_scratch2.sem) 0
            ∗ ∃ W', ⌜∀ p ∈ W', p ∈ W ∨ p.2 = none⌝ ∗ owes (c : Thread nD τ) O W') -∗ Q ⟨⟩))
      ⊢ wp frame (wpE (defs₀ (F := F)) 𝒱₀ (c : Thread nD τ) none) Set.univ (cc2__h_body i M2 h2 uW (Memref.isWhole_whole _) M4 h4 sW (Memref.isWhole_whole _) rW (Memref.isWhole_whole _) cc2_scratch2) Q := by
  rw [cc2__h_body_eq_skeleton]
  unfold cc2__h_body_skel owns
  rw [k2_part1_eq_skeleton]
  unfold k2_part1_skel
  rw [dif_neg hi1, dif_neg hi2, dif_pos hi3]
  obtain rfl : u = ⟨(i 0).val + 1, next_lt3 hi3⟩ := Fin.ext (by show u.val = (i 0).val + 1; omega)
  unfold slabFlight
  iintro ⟨⟨%f2, %e2, H2⟩, ⟨%f4, -, H4⟩, ⟨%f5, %e5, Hs⟩, H6, Hmw, HO, Hk⟩
  sl_exec
  have hu' : SlabIn c X ⟨(i 0).val + 1, next_lt3 hi3⟩ ((rW).view.writes (Elt F) f6 (h_run_wait.sl.H6_1 c i hi3 f5)) := by
    sl_unfold_run_names
    exact SlabIn.stored f6 (k2_off3_eq i) _ (congrArg k2_pay1 ((View.readAt_full (s := S512x4096) _ _ _).trans e5))
  have ht' : SlabIn c X t ((rW).view.writes (Elt F) f6 (h_run_wait.sl.H6_1 c i hi3 f5)) := by
    sl_unfold_run_names
    exact hf6.kept (u := ⟨(i 0).val + 1, next_lt3 hi3⟩) (k2_off3_eq i) _ _ (by show t.val % 2 ≠ ((i 0).val + 1) % 2; omega)
  sl_step
  iapply Hk
  isplitl [H2]; · iexists f2; isplitr; · ipureintro; exact e2
                  iexact H2
  isplitl [H4]
  · iexists _; isplitr; swap; (· iexact H4); ipureintro
    exact (View.read_writes_full _ _ _ _ _).trans (by rw [View.readAt_full, e2]; exact congrArg _ (SlabIn.load (ht') ((k2_off4_eq i).trans (by rw [ht])) _))
  isplitl [Hs_src]; · iexact Hs_src
  isplitl [Hs_dst]; · iexists _; iexact Hs_dst
  isplitl [H6]
  · iexists _; isplitr; swap; (· iexact H6); ipureintro
    exact ⟨ht', hu'⟩
  isplitl [Hs]; · iexact Hs
  iexists _; isplitr; swap; (· iexact HO); ipureintro
  intro q hq
  rcases Finset.mem_insert.mp hq with h | h
  · exact .inr (congrArg Prod.snd h)
  · exact .inl h

/-- The first point, which fetches and casts the first slab before it multiplies. -/
theorem h_run_first (Q : PUnit → sProp 𝕄) (hi0 : (i 0).val = 0) (hi1 : k2_first i = 1#1) (hi2 : ¬ k2_cond2 i = 1#1) (hi3 : ¬ k2_cond3 i = 1#1)
    (f5 : Buf (Elt F) ((sW).view.loc (c : Thread nD τ))) (f6 : Buf (Elt F) ((rW).view.loc (c : Thread nD τ))) (O : CellTallies nD τ sig (HIx 1)) (W : Waits sig (HIx 1)) :
    iprop(owns (c : Thread nD τ) M2 fullShare X2 ∗ owns (c : Thread nD τ) M4 fullShare d4
        ∗ ((slab 0).view.loc (c : Thread nD τ) ↦[(slab 0).view.set]{fullShare} X)
        ∗ ((sW).view.loc (c : Thread nD τ) ↦{fullShare} f5)
        ∗ ((rW).view.loc (c : Thread nD τ) ↦{fullShare} f6)
        ∗ semVal ((c : Thread nD τ), .dma cc2_scratch2.sem) 0
        ∗ (Transfers.MayWaits (c : Thread nD τ) (none : HIx 1) O : sProp 𝕄) ∗ owes (c : Thread nD τ) O W
        ∗ (iprop(owns (c : Thread nD τ) M2 fullShare X2 ∗ owns (c : Thread nD τ) M4 fullShare (k2_pay3 X2 (slabCast c X 0))
            ∗ ((slab 0).view.loc (c : Thread nD τ) ↦[(slab 0).view.set]{fullShare} X)
            ∗ (∃ f : Buf (Elt F) ((sW).view.loc (c : Thread nD τ)), (sW).view.loc (c : Thread nD τ) ↦{fullShare} f)
            ∗ (∃ f6' : Buf (Elt F) ((rW).view.loc (c : Thread nD τ)), ⌜SlabIn c X 0 f6'⌝ ∗ (rW).view.loc (c : Thread nD τ) ↦{fullShare} f6')
            ∗ semVal ((c : Thread nD τ), .dma cc2_scratch2.sem) 0
            ∗ ∃ W', ⌜∀ p ∈ W', p ∈ W ∨ p.2 = none⌝ ∗ owes (c : Thread nD τ) O W') -∗ Q ⟨⟩))
      ⊢ wp frame (wpE (defs₀ (F := F)) 𝒱₀ (c : Thread nD τ) none) Set.univ (cc2__h_body i M2 h2 uW (Memref.isWhole_whole _) M4 h4 sW (Memref.isWhole_whole _) rW (Memref.isWhole_whole _) cc2_scratch2) Q := by
  rw [cc2__h_body_eq_skeleton]
  unfold cc2__h_body_skel owns
  rw [k2_part1_eq_skeleton]
  unfold k2_part1_skel
  rw [dif_pos hi1, dif_neg hi2, dif_neg hi3]
  iintro ⟨⟨%f2, %e2, H2⟩, ⟨%f4, -, H4⟩, H1, H5, H6, Hs, Hmw, HO, Hk⟩
  sl_exec
  have h0 : SlabIn c X 0 ((rW).view.writes (Elt F) f6 (h_run_first.sl.H6_1 c X f5)) := by
    sl_unfold_run_names
    exact SlabIn.stored f6 rfl _ (congrArg k2_pay1 ((View.readAt_full (s := S512x4096) _ _ _).trans (View.read_write_univ _ _)))
  sl_step
  iapply Hk
  isplitl [H2]; · iexists f2; isplitr; · ipureintro; exact e2
                  iexact H2
  isplitl [H4]
  · iexists _; isplitr; swap; (· iexact H4); ipureintro
    exact (View.read_writes_full _ _ _ _ _).trans (by rw [View.readAt_full, e2]; exact congrArg _ (SlabIn.load (h0) ((k2_off4_eq i).trans (by rw [hi0]; rfl)) _))
  isplitl [H1]; · iexact H1
  isplitl [H5]; · iexists _; iexact H5
  isplitl [H6]
  · iexists _; isplitr; swap; (· iexact H6); ipureintro
    exact h0
  isplitl [Hs]; · iexact Hs
  iexists _; isplitr; swap; (· iexact HO); ipureintro
  intro q hq
  rcases Finset.mem_insert.mp hq with h | h
  · exact .inr (congrArg Prod.snd h)
  · exact .inl h

end Body

/-! ## The points of the grid -/

/-- The first grid coordinate of point `t`. -/
theorem coords2_0 (t : Fin grid2.N) : (grid2.coords t 0).val = t.val / 8 := by
  have : t.val < 64 := lt_of_lt_of_eq t.isLt N_2
  rw [Pipeline.Grid.coords_val t 0 (S := 8) (B := 8) (by decide) rfl]; omega
/-- The second grid coordinate of point `t`. -/
theorem coords2_1 (t : Fin grid2.N) : (grid2.coords t 1).val = t.val % 8 := by
  rw [Pipeline.Grid.coords_val t 1 (S := 1) (B := 8) (by decide) rfl, Nat.div_one]

theorem k2_first_iff : ∀ i : grid2.Coords, k2_first i = 1#1 ↔ (i 0).val = 0 ∧ (i 1).val = 0 := by decide +kernel
theorem k2_cond2_iff : ∀ i : grid2.Coords, k2_cond2 i = 1#1 ↔ (i 1).val = 1 ∧ (i 0).val + 1 < 8 := by decide +kernel
theorem k2_cond3_iff : ∀ i : grid2.Coords, k2_cond3 i = 1#1 ↔ (i 1).val = 2 ∧ (i 0).val + 1 < 8 := by decide +kernel

theorem first_at (t : Fin grid2.N) : k2_first (grid2.coords t) = 1#1 ↔ t.val = 0 := by
  rw [k2_first_iff, coords2_0, coords2_1]; omega
theorem cond2_at (t : Fin grid2.N) : k2_cond2 (grid2.coords t) = 1#1 ↔ t.val % 8 = 1 ∧ t.val / 8 + 1 < 8 := by
  rw [k2_cond2_iff, coords2_0, coords2_1]
theorem cond3_at (t : Fin grid2.N) : k2_cond3 (grid2.coords t) = 1#1 ↔ t.val % 8 = 2 ∧ t.val / 8 + 1 < 8 := by
  rw [k2_cond3_iff, coords2_0, coords2_1]

section Invariant

variable (c : Dev nD) (X : Buf (Elt F) ((c : Thread nD τ).loc main_arg1))

/-- What the slots hold after `n` points: the slab in use, and the next one once it has come. -/
def Slots2 (n : ℕ) (f : Buf (Elt F) ((rW).view.loc (c : Thread nD τ))) : Prop :=
  ∀ t : Fin 8, (0 < n ∧ n / 8 = t.val ∨ 3 ≤ n % 8 ∧ n / 8 + 1 = t.val) → SlabIn c X t f

variable {c X} in
theorem Slots2.step {n : ℕ} {f} (h : Slots2 c X n f) (h0 : n ≠ 0) (h3 : ¬ (n % 8 = 2 ∧ n / 8 + 1 < 8)) : Slots2 c X (n + 1) f := by
  intro t ht
  have := t.isLt
  exact h t (by omega)

/-- No slab on its way. -/
def still2 : sProp 𝕄 :=
  iprop(((uW).view.loc (c : Thread nD τ) ↦{fullShare} X) ∗ (∃ f : Buf (Elt F) ((sW).view.loc (c : Thread nD τ)), (sW).view.loc (c : Thread nD τ) ↦{fullShare} f)
    ∗ semVal ((c : Thread nD τ), .dma cc2_scratch2.sem) 0)

/-- Slab `u` on its way, the rest of the weights kept. -/
def moving2 (u : Fin 8) : sProp 𝕄 :=
  iprop(slabFlight c X u ∗ ((slab u).view.loc (c : Thread nD τ) ↦[Finset.univ \ (slab u).view.set]{fullShare} X))

/-- The weights and the scratch after `n` points. -/
def fetch2 (n : ℕ) : sProp 𝕄 := if h : n % 8 = 2 ∧ n / 8 + 1 < 8 then moving2 c X ⟨n / 8 + 1, h.2⟩ else still2 c X

/-- The kernel's invariant after `n` points. -/
def inv2 (O : CellTallies nD τ sig (HIx 1)) (n : ℕ) : sProp 𝕄 :=
  iprop(Pipeline.scopedRestBut (Ix := HIx 1) (Name := ℕ) (U := UU) (Lvl := ℕ) (Val := Elt F) spec2 c [cc2_scratch0, cc2_scratch1]
    ∗ (Transfers.MayWaits (c : Thread nD τ) (none : HIx 1) O : sProp 𝕄)
    ∗ (∃ f : Buf (Elt F) ((rW).view.loc (c : Thread nD τ)), ⌜Slots2 c X n f⌝ ∗ (rW).view.loc (c : Thread nD τ) ↦{fullShare} f)
    ∗ fetch2 c X n)

theorem slab_split (u : Fin 8) : ((uW).view.loc (c : Thread nD τ) ↦{fullShare} X : sProp 𝕄)
    ⊣⊢ iprop(((slab u).view.loc (c : Thread nD τ) ↦[(slab u).view.set]{fullShare} X)
      ∗ ((slab u).view.loc (c : Thread nD τ) ↦[Finset.univ \ (slab u).view.set]{fullShare} X)) :=
  pointsTo_split_subset (Finset.subset_univ _)

end Invariant

section Region1

variable (V : (c : Dev nD) → (r : Ref sig .tc) → Buf (Elt F) ((c.tc : Thread nD τ).loc r))
  (O : Dev nD → CellTallies nD τ sig (HIx 1)) (b : ℕ)

/-- Window `w`'s block at point `t`, of the arrays as the region finds them. -/
abbrev pblk2 (c : Dev nD) (w : Fin cfg2.W) (t : Fin cfg2.N) : ((cfg2.win w).xblock (cfg2.grid.coords t)).Idx → Elt F (cfg2.win w).elt :=
  ((cfg2.win w).blk t).view.read (Elt F) (V c (arrRef spec2 w))

theorem div8_lt (t : Fin cfg2.N) : t.val / 8 < 8 := by have : t.val < 64 := lt_of_lt_of_eq t.isLt N_2; omega

/-- The hidden-layer kernel's proof data. -/
def dat2 (c : Dev nD) : DatOf F cfg2 c where
  A w := V c (arrRef spec2 w)
  after w t := match w with
    | ⟨0, _⟩ => pblk2 V c 0 t
    | ⟨1, _⟩ => k2_pay3 (pblk2 V c 0 t) (slabCast c (V c main_arg1) ⟨t.val / 8, div8_lt t⟩)
  Φ t := inv2 c (V c main_arg1) (O c) t.val
  q _ := fullShare
  owed _ := O c
  recorded _ := below (F := F) c b

theorem before2_0 (c : Dev nD) (t : Fin cfg2.N) (d) : (dat2 V O b c).before 0 t d = pblk2 V c 0 t :=
  (dat2 V O b c).before_in_eq_fetched 0 rfl (fun _ => rfl) (fun _ _ _ => rfl) (fun _ => rfl) t d

theorem defs₀_row2 (t : Fin cfg2.N) : defs₀ (F := F) .tc cfg2.body (cfg2.bodyArgs t (cfg2.slots t)) = bodyAt2 t := rfl

/-- The hidden-layer kernel's body at any point. -/
theorem body2 (c : Dev nD) : BodyObligation (dat2 V O b c) (defs₀ (F := F)) 𝒱₀ none Set.univ := fun t => by
  rw [bigSep_W2, bigSep_W2, defs₀_row2]
  simp only [before2_0]
  rw [show (dat2 V O b c).Φ t.succ = inv2 c (V c main_arg1) (O c) (t.val + 1) from rfl,
    show (dat2 V O b c).Φ t.castSucc = inv2 c (V c main_arg1) (O c) t.val from rfl]
  have hlt := div8_lt t
  by_cases h0 : t.val = 0
  · have n2 : ¬ (t.val % 8 = 1 ∧ t.val / 8 + 1 < 8) := by omega
    have n3 : ¬ (t.val % 8 = 2 ∧ t.val / 8 + 1 < 8) := by omega
    have n3' : ¬ ((t.val + 1) % 8 = 2 ∧ (t.val + 1) / 8 + 1 < 8) := by omega
    have ht : (⟨t.val / 8, hlt⟩ : Fin 8) = 0 := Fin.ext (by show t.val / 8 = 0; omega)
    unfold inv2 fetch2
    rw [dif_neg n3, dif_neg n3']
    unfold still2
    iintro ⟨⟨Hr, #HM, ⟨%f6, -, H6⟩, H1, ⟨%f5, H5⟩, Hs⟩, Howes, ⟨%d0, H0⟩, ⟨%d1, H4⟩⟩
    ihave Howes := (below_of_owesAt (dat2 V O b c) rfl rfl) $$ Howes
    icases Howes with ⟨%W, %hW, HO⟩
    ihave H1 := (slab_split c (V c main_arg1) 0).1 $$ H1
    icases H1 with ⟨H1, H1r⟩
    iapply (h_run_first c (V c main_arg1) (grid2.coords t) _ _ _ _ (pblk2 V c 0 t) _ _ ((coords2_0 t).trans (by omega)) ((first_at t).2 h0)
      (fun h => n2 ((cond2_at t).1 h)) (fun h => n3 ((cond3_at t).1 h)) f5 f6 (O c) W)
    isplitl [H0]; · iexact H0
    isplitl [H4]; · iexact H4
    isplitl [H1]; · iexact H1
    isplitl [H5]; · iexact H5
    isplitl [H6]; · iexact H6
    isplitl [Hs]; · iexact Hs
    isplitl []; · iexact HM
    isplitl [HO]; · iexact HO
    iintro ⟨H0, H4, H1, H5, ⟨%f6', %h6, H6⟩, Hs, ⟨%W', %hW', HO⟩⟩
    isplitl [Hr H1 H1r H5 H6 Hs]
    · isplitl [Hr]; · iexact Hr
      isplitl []; · iexact HM
      isplitl [H6]
      · iexists f6'; isplitr; swap; (· iexact H6); ipureintro
        intro u hu
        rwa [show u = 0 from Fin.ext (by show u.val = 0; omega)]
      isplitl [H1 H1r]
      · iapply (slab_split c (V c main_arg1) 0).2
        isplitl [H1] <;> iassumption
      isplitl [H5]; · iexact H5
      iexact Hs
    isplitl [HO]
    · iapply (owesAt_of_below (dat2 V O b c) rfl rfl)
      iexists W'; isplitr; swap; (· iexact HO); ipureintro
      exact below_of_grown hW hW'
    isplitl [H0]; · iexact H0
    rw [show (dat2 V O b c).after 1 t = k2_pay3 (pblk2 V c 0 t) (slabCast c (V c main_arg1) ⟨t.val / 8, hlt⟩) from rfl, ht]
    iexact H4
  by_cases h2 : t.val % 8 = 1 ∧ t.val / 8 + 1 < 8
  · have n3 : ¬ (t.val % 8 = 2 ∧ t.val / 8 + 1 < 8) := by omega
    have n3' : (t.val + 1) % 8 = 2 ∧ (t.val + 1) / 8 + 1 < 8 := by omega
    unfold inv2 fetch2
    rw [dif_neg n3, dif_pos n3']
    unfold still2 moving2
    rw [show (dat2 V O b c).owesAt none t.succ = (dat2 V O b c).owesAt none t.castSucc from rfl]
    iintro ⟨⟨Hr, HM, ⟨%f6, %h6, H6⟩, H1, ⟨%f5, H5⟩, Hs⟩, Howes, ⟨%d0, H0⟩, ⟨%d1, H4⟩⟩
    ihave H1 := (slab_split c (V c main_arg1) ⟨(t.val + 1) / 8 + 1, n3'.2⟩).1 $$ H1
    icases H1 with ⟨H1, H1r⟩
    iapply (h_run_send c (V c main_arg1) (grid2.coords t) _ _ _ _ (pblk2 V c 0 t) _ _ ⟨t.val / 8, hlt⟩ ⟨(t.val + 1) / 8 + 1, n3'.2⟩ (coords2_0 t)
      (by show t.val / 8 + 1 = (t.val + 1) / 8 + 1; omega) (fun h => h0 ((first_at t).1 h))
      ((cond2_at t).2 h2) (fun h => n3 ((cond3_at t).1 h)) f5 f6 (h6 _ (.inl ⟨by omega, rfl⟩)))
    isplitl [H0]; · iexact H0
    isplitl [H4]; · iexact H4
    isplitl [H1]; · iexact H1
    isplitl [H5]; · iexact H5
    isplitl [H6]; · iexact H6
    isplitl [Hs]; · iexact Hs
    iintro ⟨H0, H4, H6, Hf⟩
    isplitl [Hr HM H1r H6 Hf]
    · isplitl [Hr]; · iexact Hr
      isplitl [HM]; · iexact HM
      isplitl [H6]
      · iexists f6; isplitr; swap; (· iexact H6); ipureintro
        exact h6.step h0 n3
      isplitl [Hf]; · iexact Hf
      iexact H1r
    isplitl [Howes]; · iexact Howes
    isplitl [H0]; · iexact H0
    iexact H4
  by_cases h3 : t.val % 8 = 2 ∧ t.val / 8 + 1 < 8
  · have n3' : ¬ ((t.val + 1) % 8 = 2 ∧ (t.val + 1) / 8 + 1 < 8) := by omega
    unfold inv2 fetch2
    rw [dif_pos h3, dif_neg n3']
    unfold still2 moving2
    iintro ⟨⟨Hr, #HM, ⟨%f6, %h6, H6⟩, Hf, H1r⟩, Howes, ⟨%d0, H0⟩, ⟨%d1, H4⟩⟩
    ihave Howes := (below_of_owesAt (dat2 V O b c) rfl rfl) $$ Howes
    icases Howes with ⟨%W, %hW, HO⟩
    iapply (h_run_wait c (V c main_arg1) (grid2.coords t) _ _ _ _ (pblk2 V c 0 t) _ _ ⟨t.val / 8, hlt⟩ ⟨t.val / 8 + 1, h3.2⟩ (coords2_0 t)
      rfl (fun h => h0 ((first_at t).1 h)) (fun h => h2 ((cond2_at t).1 h)) ((cond3_at t).2 h3) f6 (h6 _ (.inl ⟨by omega, rfl⟩)) (O c) W)
    isplitl [H0]; · iexact H0
    isplitl [H4]; · iexact H4
    isplitl [Hf]; · iexact Hf
    isplitl [H6]; · iexact H6
    isplitl []; · iexact HM
    isplitl [HO]; · iexact HO
    iintro ⟨H0, H4, H1, H5, ⟨%f6', %h6', H6⟩, Hs, ⟨%W', %hW', HO⟩⟩
    isplitl [Hr H1 H1r H5 H6 Hs]
    · isplitl [Hr]; · iexact Hr
      isplitl []; · iexact HM
      isplitl [H6]
      · iexists f6'; isplitr; swap; (· iexact H6); ipureintro
        intro u hu
        by_cases e : u.val = t.val / 8
        · rw [show u = ⟨t.val / 8, hlt⟩ from Fin.ext e]; exact h6'.1
        · rw [show u = ⟨t.val / 8 + 1, h3.2⟩ from Fin.ext (by show u.val = t.val / 8 + 1; omega)]; exact h6'.2
      isplitl [H1 H1r]
      · iapply (slab_split c (V c main_arg1) ⟨t.val / 8 + 1, h3.2⟩).2
        isplitl [H1] <;> iassumption
      isplitl [H5]; · iexact H5
      iexact Hs
    isplitl [HO]
    · iapply (owesAt_of_below (dat2 V O b c) rfl rfl)
      iexists W'; isplitr; swap; (· iexact HO); ipureintro
      exact below_of_grown hW hW'
    isplitl [H0]; · iexact H0
    iexact H4
  have n3' : ¬ ((t.val + 1) % 8 = 2 ∧ (t.val + 1) / 8 + 1 < 8) := by omega
  unfold inv2 fetch2
  rw [dif_neg h3, dif_neg n3']
  rw [show (dat2 V O b c).owesAt none t.succ = (dat2 V O b c).owesAt none t.castSucc from rfl]
  iintro ⟨⟨Hr, HM, ⟨%f6, %h6, H6⟩, Hf⟩, Howes, ⟨%d0, H0⟩, ⟨%d1, H4⟩⟩
  iapply (h_run_plain c (V c main_arg1) (grid2.coords t) _ _ _ _ (pblk2 V c 0 t) _ _ ⟨t.val / 8, hlt⟩ (coords2_0 t) (fun h => h0 ((first_at t).1 h))
    (fun h => h2 ((cond2_at t).1 h)) (fun h => h3 ((cond3_at t).1 h)) f6 (h6 _ (.inl ⟨by omega, rfl⟩)))
  isplitl [H0]; · iexact H0
  isplitl [H4]; · iexact H4
  isplitl [H6]; · iexact H6
  iintro ⟨H0, H4, H6⟩
  isplitl [Hr HM H6 Hf]
  · isplitl [Hr]; · iexact Hr
    isplitl [HM]; · iexact HM
    isplitl [H6]
    · iexists f6; isplitr; swap; (· iexact H6); ipureintro
      exact h6.step h0 h3
    iexact Hf
  isplitl [Howes]; · iexact Howes
  isplitl [H0]; · iexact H0
  iexact H4

/-- The kernel's own semaphore. -/
abbrev osem2 : Unit → SemLoc sig := fun _ => .dma cc2_scratch2.sem

theorem rest2_split (c : Dev nD) : (scopedRest spec2 c : sProp 𝕄)
    = iprop(((∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f))
      ∗ Pipeline.scopedRestBut (Ix := HIx 1) (Name := ℕ) (U := UU) (Lvl := ℕ) (Val := Elt F) spec2 c [cc2_scratch0, cc2_scratch1]) :=
  Pipeline.scopedRest_split_of_list spec2 c [cc2_scratch0, cc2_scratch1] (by decide) (by decide)

theorem sems2_eq (c : Dev nD) : (ownSems0 osem2 c : sProp 𝕄) = semVal ((c : Thread nD τ), .dma cc2_scratch2.sem) 0 :=
  Pipeline.ownSems0_eq_of_list c osem2 [()] (by decide) (by decide)

/-- What the region enters with gives the invariant at the first point. -/
theorem hin2 (c : Dev nD) : iprop(scopedRest spec2 c ∗ ownSems0 osem2 c ∗ (bigSep {main_arg1} fun r => ((c.tc : Thread nD τ).loc r) ↦{fullShare} V c r)
    ∗ (Transfers.MayWaits (c.tc : Thread nD τ) (none : HIx 1) (O c) : sProp 𝕄)) ⊢ (dat2 V O b c).Φ 0 := by
  rw [show (dat2 V O b c).Φ 0 = inv2 c (V c main_arg1) (O c) 0 from rfl,
    rest2_split, bigSep_singleton, sems2_eq]
  unfold inv2 fetch2
  rw [dif_neg (by omega)]
  unfold still2
  iintro ⟨⟨⟨⟨%f5, H5⟩, ⟨%f6, H6⟩⟩, Hr⟩, Hs, H1, HM⟩
  isplitl [Hr]; · iexact Hr
  isplitl [HM]; · iexact HM
  isplitl [H6]
  · iexists f6; isplitr; swap; (· iexact H6); ipureintro
    intro u hu; exact absurd hu (by omega)
  isplitl [H1]; · iexact H1
  isplitl [H5]; · iexists f5; iexact H5
  iexact Hs

/-- The invariant after the last point gives back what the region entered with. -/
theorem hout2 (c : Dev nD) : (dat2 V O b c).Φ (Fin.last cfg2.N) ⊢ iprop(scopedRest spec2 c ∗ ownSems0 osem2 c
    ∗ (bigSep {main_arg1} fun r => ((c.tc : Thread nD τ).loc r) ↦{fullShare} V c r)) := by
  rw [show (dat2 V O b c).Φ (Fin.last cfg2.N) = inv2 c (V c main_arg1) (O c) grid2.N from rfl, N_2,
    rest2_split, bigSep_singleton, sems2_eq]
  unfold inv2 fetch2
  rw [dif_neg (by omega)]
  unfold still2
  iintro ⟨Hr, -, ⟨%f6, -, H6⟩, H1, ⟨%f5, H5⟩, Hs⟩
  isplitl [Hr H5 H6]
  · isplitl [H5 H6]
    · isplitl [H5]; · iexists f5; iexact H5
      iexists f6; iexact H6
    iexact Hr
  isplitl [Hs]; · iexact Hs
  iexact H1

end Region1

end Cert.Proof.Top2
-- ==== Proof.OutBody.lean ====
/-
  The output kernel: point `(t, m)` multiplies the 512 rows `m` of the hidden layer with slab `t` of the second shared
  weights, and those rows of the cast `x` with slab `t` of the expert weights, scaled by the rows' routing sums; the next
  slabs are fetched and cast beside it.
-/
module

public import proofs.«01_k».proof.Proof.HBody
public import Idealize.ShloMosaic.Lib.VecWindow

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation OwnSemFacts LaunchFacts RegionSeg restRefs arrRef ownSems0 scopedRest)

variable {F : FTy → Type} [FloatOps F]

local notation "𝕄" => MT nD τ sig (HIx 1) (Elt F) ℕ UU ℕ
local notation "dW" => (Memref.whole Cert.KernelIdeal.main_arg2 : Memref Cert.KernelIdeal.sig Kind.tc Space.hbm Cert.KernelIdeal.S4096x4096 EltTy.f32)
local notation "eW" => (Memref.whole Cert.KernelIdeal.main_arg4 : Memref Cert.KernelIdeal.sig Kind.tc Space.hbm Cert.KernelIdeal.S4096x4096 EltTy.f32)
local notation "aW" => (Memref.whole Cert.KernelIdeal.cc3_scratch0 : Memref Cert.KernelIdeal.sig Kind.tc Space.vmem Cert.KernelIdeal.S512x4096 EltTy.f32)
local notation "bW" => (Memref.whole Cert.KernelIdeal.cc3_scratch1 : Memref Cert.KernelIdeal.sig Kind.tc Space.vmem Cert.KernelIdeal.S4096x512 EltTy.f32)
local notation "pW" => (Memref.whole Cert.KernelIdeal.cc3_scratch2 : Memref Cert.KernelIdeal.sig Kind.tc Space.vmem Cert.KernelIdeal.S2x512x4096 EltTy.bf16)
local notation "qW" => (Memref.whole Cert.KernelIdeal.cc3_scratch3 : Memref Cert.KernelIdeal.sig Kind.tc Space.vmem Cert.KernelIdeal.S2x4096x512 EltTy.bf16)

/-- Slab `t` of the second shared weights: rows `512 t` to `512 t + 511`. -/
def down (t : Fin 8) : Memref sig .tc .hbm S512x4096 .f32 :=
  (dW).slice (Rect.unit (s := S4096x4096) ![512 * t.val, 0] S512x4096.size (slab_inb t)) (fun _ => rfl)

theorem expert_inb : ∀ t : Fin 8, ∀ a, (![0, 512 * t.val] : Fin 2 → Nat) a + S4096x512.size a ≤ S4096x4096.size a := by decide
/-- Slab `t` of the expert weights: columns `512 t` to `512 t + 511`. -/
def expert (t : Fin 8) : Memref sig .tc .hbm S4096x512 .f32 :=
  (eW).slice (Rect.unit (s := S4096x4096) ![0, 512 * t.val] S4096x512.size (expert_inb t)) (fun _ => rfl)

theorem down_congr {off : Fin 2 → Nat} {t : Fin 8} (e : off = ![512 * t.val, 0]) (hh hs) :
    (dW).slice (Rect.unit (s := S4096x4096) off S512x4096.size hh) hs = down t := by subst e; rfl
theorem expert_congr {off : Fin 2 → Nat} {t : Fin 8} (e : off = ![0, 512 * t.val]) (hh hs) :
    (eW).slice (Rect.unit (s := S4096x4096) off S4096x512.size hh) hs = expert t := by subst e; rfl

theorem out_next2 {i : grid3.Coords} (h : k3_cond2 i = 1#1) : (i 0).val + 1 < 8 := by revert i; decide +kernel
theorem out_next3 {i : grid3.Coords} (h : k3_cond3 i = 1#1) : (i 0).val + 1 < 8 := by revert i; decide +kernel

@[sl_canon] theorem down_first (hh hs) : (dW).slice (Rect.unit (s := S4096x4096) ![0, 0] S512x4096.size hh) hs = down 0 := down_congr (t := 0) rfl _ _
@[sl_canon] theorem expert_first (hh hs) : (eW).slice (Rect.unit (s := S4096x4096) ![0, 0] S4096x512.size hh) hs = expert 0 := expert_congr (t := 0) rfl _ _
@[sl_canon] theorem down_next2 (i : grid3.Coords) (h : k3_cond2 i = 1#1) (hs) :
    (dW).slice (Rect.unit (s := S4096x4096) (k3_off1 i) S512x4096.size (k3_off1_inb i h)) hs = down ⟨(i 0).val + 1, out_next2 h⟩ :=
  down_congr ((k3_off1_eq i).trans (by rw [Nat.mul_add])) _ _
@[sl_canon] theorem expert_next2 (i : grid3.Coords) (h : k3_cond2 i = 1#1) (hs) :
    (eW).slice (Rect.unit (s := S4096x4096) (k3_off2 i) S4096x512.size (k3_off2_inb i h)) hs = expert ⟨(i 0).val + 1, out_next2 h⟩ :=
  expert_congr ((k3_off2_eq i).trans (by rw [Nat.mul_add])) _ _
@[sl_canon] theorem down_next3 (i : grid3.Coords) (h : k3_cond3 i = 1#1) (hs) :
    (dW).slice (Rect.unit (s := S4096x4096) (k3_off3 i) S512x4096.size (k3_off3_inb i h)) hs = down ⟨(i 0).val + 1, out_next3 h⟩ :=
  down_congr ((k3_off3_eq i).trans (by rw [Nat.mul_add])) _ _
@[sl_canon] theorem expert_next3 (i : grid3.Coords) (h : k3_cond3 i = 1#1) (hs) :
    (eW).slice (Rect.unit (s := S4096x4096) (k3_off4 i) S4096x512.size (k3_off4_inb i h)) hs = expert ⟨(i 0).val + 1, out_next3 h⟩ :=
  expert_congr ((k3_off4_eq i).trans (by rw [Nat.mul_add])) _ _

theorem k3_off5_eq : ∀ i : grid3.Coords, k3_off5 i = ![((i 0).val + 1) % 2, 0, 0] := by decide +kernel
theorem k3_off6_eq : ∀ i : grid3.Coords, k3_off6 i = ![((i 0).val + 1) % 2, 0, 0] := by decide +kernel
theorem k3_off7_eq : ∀ i : grid3.Coords, k3_off7 i = ![(i 0).val % 2, 0, 0] := by decide +kernel
theorem k3_off8_eq : ∀ i : grid3.Coords, k3_off8 i = ![(i 0).val % 2, 0, 0] := by decide +kernel

instance closedOff_k3_off5 (i : grid3.Coords) : ClosedOff (k3_off5 i) := ⟨![((i 0).val + 1) % 2, 0, 0], k3_off5_eq i⟩
instance closedOff_k3_off6 (i : grid3.Coords) : ClosedOff (k3_off6 i) := ⟨![((i 0).val + 1) % 2, 0, 0], k3_off6_eq i⟩
instance closedOff_k3_off7 (i : grid3.Coords) : ClosedOff (k3_off7 i) := ⟨![(i 0).val % 2, 0, 0], k3_off7_eq i⟩
instance closedOff_k3_off8 (i : grid3.Coords) : ClosedOff (k3_off8 i) := ⟨![(i 0).val % 2, 0, 0], k3_off8_eq i⟩

/-- The condition of the first point, as the body computes it. -/
abbrev k3_first (i : grid3.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem expert_slot_inb : ∀ t : Fin 8, ∀ a, (![t.val % 2, 0, 0] : Fin 3 → Nat) a + S1x4096x512.size a ≤ S2x4096x512.size a := by decide

section Body

variable (c : Dev nD) (D : Buf (Elt F) ((c : Thread nD τ).loc main_arg2)) (E : Buf (Elt F) ((c : Thread nD τ).loc main_arg4))
/-- What slot `t % 2` of the cast shared slabs holds once shared slab `t` is in it. -/
def downCast (t : Fin 8) : Vec F S1x512x4096 .bf16 := k3_pay2 ((down t).view.read (Elt F) D)

/-- The shared slab `t`, cast, lies in its slot. -/
def DownIn (t : Fin 8) (f : Buf (Elt F) ((pW).view.loc (c : Thread nD τ))) : Prop :=
  (pW).view.readAt (Elt F) (Rect.unit (s := S2x512x4096) ![t.val % 2, 0, 0] S1x512x4096.size (slot_inb t)).toLoadRect f = downCast c D t

variable {c D}

theorem DownIn.load {t : Fin 8} {f : Buf (Elt F) ((pW).view.loc (c : Thread nD τ))} (h : DownIn c D t f) {off : Fin 3 → Nat} (e : off = ![t.val % 2, 0, 0]) (hh) :
    (pW).view.readAt (Elt F) (Rect.unit (s := S2x512x4096) off S1x512x4096.size hh).toLoadRect f = downCast c D t := by subst e; exact h

theorem DownIn.stored {t : Fin 8} (f : Buf (Elt F) ((pW).view.loc (c : Thread nD τ))) {off : Fin 3 → Nat} (e : off = ![t.val % 2, 0, 0]) (hh)
    {w : Vec F S1x512x4096 .bf16} (hw : w = downCast c D t) :
    DownIn c D t ((pW).view.writes (Elt F) f [⟨Rect.unit (s := S2x512x4096) off S1x512x4096.size hh, w⟩]) := by
  subst e; subst hw
  funext x
  exact View.read_writes_cons_emb _ _ _ _ _ _

theorem DownIn.kept {t u : Fin 8} {f : Buf (Elt F) ((pW).view.loc (c : Thread nD τ))} (h : DownIn c D t f) {off : Fin 3 → Nat} (e : off = ![u.val % 2, 0, 0]) (hh)
    (w : Vec F S1x512x4096 .bf16) (hne : t.val % 2 ≠ u.val % 2) :
    DownIn c D t ((pW).view.writes (Elt F) f [⟨Rect.unit (s := S2x512x4096) off S1x512x4096.size hh, w⟩]) := by
  subst e
  refine Eq.trans ?_ h
  funext x
  have hx : (x 0).val = 0 := by have := (x 0).isLt; change (x 0).val < 1 at this; omega
  refine View.read_writes_cons_miss_of_axis _ _ _ _ _ 0 (u.val % 2) 1 rfl rfl rfl ?_
  show t.val % 2 + 1 * (x 0).val < u.val % 2 ∨ u.val % 2 + 1 ≤ t.val % 2 + 1 * (x 0).val
  omega

variable (c D)

/-- What slot `t % 2` of the cast expert slabs holds once expert slab `t` is in it. -/
def expertCast (t : Fin 8) : Vec F S1x4096x512 .bf16 := k3_pay5 ((expert t).view.read (Elt F) E)

/-- The expert slab `t`, cast, lies in its slot. -/
def ExpertIn (t : Fin 8) (f : Buf (Elt F) ((qW).view.loc (c : Thread nD τ))) : Prop :=
  (qW).view.readAt (Elt F) (Rect.unit (s := S2x4096x512) ![t.val % 2, 0, 0] S1x4096x512.size (expert_slot_inb t)).toLoadRect f = expertCast c E t

variable {c E}

theorem ExpertIn.load {t : Fin 8} {f : Buf (Elt F) ((qW).view.loc (c : Thread nD τ))} (h : ExpertIn c E t f) {off : Fin 3 → Nat} (e : off = ![t.val % 2, 0, 0]) (hh) :
    (qW).view.readAt (Elt F) (Rect.unit (s := S2x4096x512) off S1x4096x512.size hh).toLoadRect f = expertCast c E t := by subst e; exact h

theorem ExpertIn.stored {t : Fin 8} (f : Buf (Elt F) ((qW).view.loc (c : Thread nD τ))) {off : Fin 3 → Nat} (e : off = ![t.val % 2, 0, 0]) (hh)
    {w : Vec F S1x4096x512 .bf16} (hw : w = expertCast c E t) :
    ExpertIn c E t ((qW).view.writes (Elt F) f [⟨Rect.unit (s := S2x4096x512) off S1x4096x512.size hh, w⟩]) := by
  subst e; subst hw
  funext x
  exact View.read_writes_cons_emb _ _ _ _ _ _

theorem ExpertIn.kept {t u : Fin 8} {f : Buf (Elt F) ((qW).view.loc (c : Thread nD τ))} (h : ExpertIn c E t f) {off : Fin 3 → Nat} (e : off = ![u.val % 2, 0, 0]) (hh)
    (w : Vec F S1x4096x512 .bf16) (hne : t.val % 2 ≠ u.val % 2) :
    ExpertIn c E t ((qW).view.writes (Elt F) f [⟨Rect.unit (s := S2x4096x512) off S1x4096x512.size hh, w⟩]) := by
  subst e
  refine Eq.trans ?_ h
  funext x
  have hx : (x 0).val = 0 := by have := (x 0).isLt; change (x 0).val < 1 at this; omega
  refine View.read_writes_cons_miss_of_axis _ _ _ _ _ 0 (u.val % 2) 1 rfl rfl rfl ?_
  show t.val % 2 + 1 * (x 0).val < u.val % 2 ∨ u.val % 2 + 1 ≤ t.val % 2 + 1 * (x 0).val
  omega

variable (c E)

/-- The shared slab `t` on its way into the scratch. -/
def downFlight (t : Fin 8) : sProp 𝕄 :=
  iprop(∃ f : Buf (Elt F) ((aW).view.loc (c : Thread nD τ)), ⌜(aW).view.read (Elt F) f = (down t).view.read (Elt F) D⌝
    ∗ Transfers.Flight countersEmb (c : Thread nD τ) (SemLoc.dma cc3_scratch4.sem) (none : HIx 1) 262144
        iprop(((aW).view.loc (c : Thread nD τ) ↦{fullShare} f) ∗ (down t).view.loc (c : Thread nD τ) ↦[(down t).view.set]{fullShare} D))

/-- The expert slab `t` on its way into the scratch. -/
def expertFlight (t : Fin 8) : sProp 𝕄 :=
  iprop(∃ f : Buf (Elt F) ((bW).view.loc (c : Thread nD τ)), ⌜(bW).view.read (Elt F) f = (expert t).view.read (Elt F) E⌝
    ∗ Transfers.Flight countersEmb (c : Thread nD τ) (SemLoc.dma cc3_scratch5.sem) (none : HIx 1) 262144
        iprop(((bW).view.loc (c : Thread nD τ) ↦{fullShare} f) ∗ (expert t).view.loc (c : Thread nD τ) ↦[(expert t).view.set]{fullShare} E))

/-- The output block of point `(t, m)`, from the rows `Xh` of the hidden layer, `Xx` of the cast `x` and `Xs` of the routing sums. -/
def outBlock (Xh Xx : Vec F S512x4096 .bf16) (Xs : Vec F S512x1 .f32) (t : Fin 8) : Vec F S512x512 .f32 :=
  k3_pay1 (k3_pay7 Xh (downCast c D t)) (k3_pay8 Xx) (expertCast c E t) Xs

variable (i : grid3.Coords) (M2 : Memref sig .tc .vmem S512x4096 .bf16) (h2 : M2.IsWhole) (M3 : Memref sig .tc .vmem S512x4096 .bf16) (h3 : M3.IsWhole)
    (M4 : Memref sig .tc .vmem S512x1 .f32) (h4 : M4.IsWhole) (M7 : Memref sig .tc .vmem S512x512 .f32) (h7 : M7.IsWhole)
    (Xh Xx : Vec F S512x4096 .bf16) (Xs : Vec F S512x1 .f32) (d7 : Vec F S512x512 .f32)

/-- A point that touches no copy: it leaves its block of the output. -/
theorem out_run_plain (Q : PUnit → sProp 𝕄) (t : Fin 8) (ht : (i 0).val = t.val) (hi1 : ¬ k3_first i = 1#1) (hi2 : ¬ k3_cond2 i = 1#1) (hi3 : ¬ k3_cond3 i = 1#1)
    (f10 : Buf (Elt F) ((pW).view.loc (c : Thread nD τ))) (hf10 : DownIn c D t f10) (f11 : Buf (Elt F) ((qW).view.loc (c : Thread nD τ))) (hf11 : ExpertIn c E t f11) :
    iprop(owns (c : Thread nD τ) M2 fullShare Xh ∗ owns (c : Thread nD τ) M3 fullShare Xx ∗ owns (c : Thread nD τ) M4 fullShare Xs ∗ owns (c : Thread nD τ) M7 fullShare d7
        ∗ ((pW).view.loc (c : Thread nD τ) ↦{fullShare} f10) ∗ ((qW).view.loc (c : Thread nD τ) ↦{fullShare} f11)
        ∗ (iprop(owns (c : Thread nD τ) M2 fullShare Xh ∗ owns (c : Thread nD τ) M3 fullShare Xx ∗ owns (c : Thread nD τ) M4 fullShare Xs ∗ owns (c : Thread nD τ) M7 fullShare (outBlock c D E Xh Xx Xs t)
            ∗ ((pW).view.loc (c : Thread nD τ) ↦{fullShare} f10) ∗ ((qW).view.loc (c : Thread nD τ) ↦{fullShare} f11)) -∗ Q ⟨⟩))
      ⊢ wp frame (wpE (defs₀ (F := F)) 𝒱₀ (c : Thread nD τ) none) Set.univ (cc3__out_body i M2 h2 M3 h3 M4 h4 dW (Memref.isWhole_whole _) eW (Memref.isWhole_whole _) M7 h7 aW (Memref.isWhole_whole _) bW (Memref.isWhole_whole _) pW (Memref.isWhole_whole _) qW (Memref.isWhole_whole _) cc3_scratch4 cc3_scratch5) Q := by
  rw [cc3__out_body_eq_skeleton]
  unfold cc3__out_body_skel owns
  rw [k3_part2_eq_skeleton]
  unfold k3_part2_skel
  rw [dif_neg hi1, dif_neg hi2, dif_neg hi3]
  iintro ⟨⟨%f2, %e2, H2⟩, ⟨%f3, %e3, H3⟩, ⟨%f4, %e4, H4⟩, ⟨%f7, -, H7⟩, H10, H11, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H7]
  · iexists _; isplitr; swap; (· iexact H7); ipureintro
    refine (View.read_writes_full _ _ _ _ _).trans ?_
    rw [View.readAt_full, View.readAt_full, View.readAt_full, e2, e3, e4]
    exact congrArg₂ (fun y z => k3_pay1 (k3_pay7 Xh y) (k3_pay8 Xx) z Xs) (DownIn.load hf10 ((k3_off7_eq i).trans (by rw [ht])) _)
      (ExpertIn.load hf11 ((k3_off8_eq i).trans (by rw [ht])) _)
  isplitl [H10]; · iexact H10
  iexact H11

/-- A point that starts the copies of the next two slabs: it leaves its block, and the copies in flight. -/
theorem out_run_send (Q : PUnit → sProp 𝕄) (t u : Fin 8) (ht : (i 0).val = t.val) (hu : t.val + 1 = u.val) (hi1 : ¬ k3_first i = 1#1) (hi2 : k3_cond2 i = 1#1) (hi3 : ¬ k3_cond3 i = 1#1)
    (f8 : Buf (Elt F) ((aW).view.loc (c : Thread nD τ))) (f9 : Buf (Elt F) ((bW).view.loc (c : Thread nD τ))) (f10 : Buf (Elt F) ((pW).view.loc (c : Thread nD τ))) (hf10 : DownIn c D t f10) (f11 : Buf (Elt F) ((qW).view.loc (c : Thread nD τ))) (hf11 : ExpertIn c E t f11) :
    iprop(owns (c : Thread nD τ) M2 fullShare Xh ∗ owns (c : Thread nD τ) M3 fullShare Xx ∗ owns (c : Thread nD τ) M4 fullShare Xs ∗ owns (c : Thread nD τ) M7 fullShare d7
        ∗ ((down u).view.loc (c : Thread nD τ) ↦[(down u).view.set]{fullShare} D) ∗ ((expert u).view.loc (c : Thread nD τ) ↦[(expert u).view.set]{fullShare} E) ∗ ((aW).view.loc (c : Thread nD τ) ↦{fullShare} f8) ∗ ((bW).view.loc (c : Thread nD τ) ↦{fullShare} f9) ∗ ((pW).view.loc (c : Thread nD τ) ↦{fullShare} f10) ∗ ((qW).view.loc (c : Thread nD τ) ↦{fullShare} f11) ∗ semVal ((c : Thread nD τ), .dma cc3_scratch4.sem) 0 ∗ semVal ((c : Thread nD τ), .dma cc3_scratch5.sem) 0
        ∗ (iprop(owns (c : Thread nD τ) M2 fullShare Xh ∗ owns (c : Thread nD τ) M3 fullShare Xx ∗ owns (c : Thread nD τ) M4 fullShare Xs ∗ owns (c : Thread nD τ) M7 fullShare (outBlock c D E Xh Xx Xs t)
            ∗ ((pW).view.loc (c : Thread nD τ) ↦{fullShare} f10) ∗ ((qW).view.loc (c : Thread nD τ) ↦{fullShare} f11) ∗ downFlight c D u ∗ expertFlight c E u) -∗ Q ⟨⟩))
      ⊢ wp frame (wpE (defs₀ (F := F)) 𝒱₀ (c : Thread nD τ) none) Set.univ (cc3__out_body i M2 h2 M3 h3 M4 h4 dW (Memref.isWhole_whole _) eW (Memref.isWhole_whole _) M7 h7 aW (Memref.isWhole_whole _) bW (Memref.isWhole_whole _) pW (Memref.isWhole_whole _) qW (Memref.isWhole_whole _) cc3_scratch4 cc3_scratch5) Q := by
  rw [cc3__out_body_eq_skeleton]
  unfold cc3__out_body_skel owns
  rw [k3_part2_eq_skeleton]
  unfold k3_part2_skel
  rw [dif_neg hi1, dif_pos hi2, dif_neg hi3]
  obtain rfl : u = ⟨(i 0).val + 1, out_next2 hi2⟩ := Fin.ext (by show u.val = (i 0).val + 1; omega)
  iintro ⟨⟨%f2, %e2, H2⟩, ⟨%f3, %e3, H3⟩, ⟨%f4, %e4, H4⟩, ⟨%f7, -, H7⟩, H5, H6, H8, H9, H10, H11, Hs, Hr, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H7]
  · iexists _; isplitr; swap; (· iexact H7); ipureintro
    refine (View.read_writes_full _ _ _ _ _).trans ?_
    rw [View.readAt_full, View.readAt_full, View.readAt_full, e2, e3, e4]
    exact congrArg₂ (fun y z => k3_pay1 (k3_pay7 Xh y) (k3_pay8 Xx) z Xs) (DownIn.load hf10 ((k3_off7_eq i).trans (by rw [ht])) _)
      (ExpertIn.load hf11 ((k3_off8_eq i).trans (by rw [ht])) _)
  isplitl [H10]; · iexact H10
  isplitl [H11]; · iexact H11
  unfold downFlight expertFlight
  isplitl [Hs]
  · iexists _; isplitr; swap; (· iexact Hs); ipureintro
    exact View.read_write_univ _ _
  iexists _; isplitr; swap; (· iexact Hr); ipureintro
  exact View.read_write_univ _ _

/-- A point that waits for the next two slabs and casts them into the other slots. -/
theorem out_run_wait (Q : PUnit → sProp 𝕄) (t u : Fin 8) (ht : (i 0).val = t.val) (hu : t.val + 1 = u.val) (hi1 : ¬ k3_first i = 1#1) (hi2 : ¬ k3_cond2 i = 1#1) (hi3 : k3_cond3 i = 1#1)
    (f10 : Buf (Elt F) ((pW).view.loc (c : Thread nD τ))) (hf10 : DownIn c D t f10) (f11 : Buf (Elt F) ((qW).view.loc (c : Thread nD τ))) (hf11 : ExpertIn c E t f11) (O : CellTallies nD τ sig (HIx 1)) (W : Waits sig (HIx 1)) :
    iprop(owns (c : Thread nD τ) M2 fullShare Xh ∗ owns (c : Thread nD τ) M3 fullShare Xx ∗ owns (c : Thread nD τ) M4 fullShare Xs ∗ owns (c : Thread nD τ) M7 fullShare d7
        ∗ downFlight c D u ∗ expertFlight c E u ∗ ((pW).view.loc (c : Thread nD τ) ↦{fullShare} f10) ∗ ((qW).view.loc (c : Thread nD τ) ↦{fullShare} f11) ∗ (Transfers.MayWaits (c : Thread nD τ) (none : HIx 1) O : sProp 𝕄) ∗ owes (c : Thread nD τ) O W
        ∗ (iprop(owns (c : Thread nD τ) M2 fullShare Xh ∗ owns (c : Thread nD τ) M3 fullShare Xx ∗ owns (c : Thread nD τ) M4 fullShare Xs ∗ owns (c : Thread nD τ) M7 fullShare (outBlock c D E Xh Xx Xs t)
            ∗ ((down u).view.loc (c : Thread nD τ) ↦[(down u).view.set]{fullShare} D) ∗ ((expert u).view.loc (c : Thread nD τ) ↦[(expert u).view.set]{fullShare} E) ∗ (∃ f : Buf (Elt F) ((aW).view.loc (c : Thread nD τ)), (aW).view.loc (c : Thread nD τ) ↦{fullShare} f) ∗ (∃ f : Buf (Elt F) ((bW).view.loc (c : Thread nD τ)), (bW).view.loc (c : Thread nD τ) ↦{fullShare} f)
            ∗ (∃ f : Buf (Elt F) ((pW).view.loc (c : Thread nD τ)), ⌜DownIn c D t f ∧ DownIn c D u f⌝ ∗ (pW).view.loc (c : Thread nD τ) ↦{fullShare} f)
            ∗ (∃ f : Buf (Elt F) ((qW).view.loc (c : Thread nD τ)), ⌜ExpertIn c E t f ∧ ExpertIn c E u f⌝ ∗ (qW).view.loc (c : Thread nD τ) ↦{fullShare} f)
            ∗ semVal ((c : Thread nD τ), .dma cc3_scratch4.sem) 0 ∗ semVal ((c : Thread nD τ), .dma cc3_scratch5.sem) 0 ∗ ∃ W', ⌜∀ p ∈ W', p ∈ W ∨ p.2 = none⌝ ∗ owes (c : Thread nD τ) O W') -∗ Q ⟨⟩))
      ⊢ wp frame (wpE (defs₀ (F := F)) 𝒱₀ (c : Thread nD τ) none) Set.univ (cc3__out_body i M2 h2 M3 h3 M4 h4 dW (Memref.isWhole_whole _) eW (Memref.isWhole_whole _) M7 h7 aW (Memref.isWhole_whole _) bW (Memref.isWhole_whole _) pW (Memref.isWhole_whole _) qW (Memref.isWhole_whole _) cc3_scratch4 cc3_scratch5) Q := by
  rw [cc3__out_body_eq_skeleton]
  unfold cc3__out_body_skel owns
  rw [k3_part2_eq_skeleton]
  unfold k3_part2_skel
  rw [dif_neg hi1, dif_neg hi2, dif_pos hi3]
  rw [k3_part1_eq_skeleton]
  unfold k3_part1_skel
  obtain rfl : u = ⟨(i 0).val + 1, out_next3 hi3⟩ := Fin.ext (by show u.val = (i 0).val + 1; omega)
  unfold downFlight expertFlight
  iintro ⟨⟨%f2, %e2, H2⟩, ⟨%f3, %e3, H3⟩, ⟨%f4, %e4, H4⟩, ⟨%f7, -, H7⟩, ⟨%f8, %e8, Hs⟩, ⟨%f9, %e9, Hr⟩, H10, H11, Hmw, HO, Hk⟩
  sl_exec
  have hu10 : DownIn c D ⟨(i 0).val + 1, out_next3 hi3⟩ ((pW).view.writes (Elt F) f10 (out_run_wait.sl.H10_1 c i hi3 f8)) := by
    sl_unfold_run_names
    exact DownIn.stored f10 (k3_off5_eq i) _ (congrArg k3_pay2 ((View.readAt_full (s := S512x4096) _ _ _).trans e8))
  have ht10 : DownIn c D t ((pW).view.writes (Elt F) f10 (out_run_wait.sl.H10_1 c i hi3 f8)) := by
    sl_unfold_run_names
    exact hf10.kept (u := ⟨(i 0).val + 1, out_next3 hi3⟩) (k3_off5_eq i) _ _ (by show t.val % 2 ≠ ((i 0).val + 1) % 2; omega)
  have hu11 : ExpertIn c E ⟨(i 0).val + 1, out_next3 hi3⟩ ((qW).view.writes (Elt F) f11 (out_run_wait.sl.H11_1 c i hi3 f9)) := by
    sl_unfold_run_names
    exact ExpertIn.stored f11 (k3_off6_eq i) _ (congrArg k3_pay5 ((View.readAt_full (s := S4096x512) _ _ _).trans e9))
  have ht11 : ExpertIn c E t ((qW).view.writes (Elt F) f11 (out_run_wait.sl.H11_1 c i hi3 f9)) := by
    sl_unfold_run_names
    exact hf11.kept (u := ⟨(i 0).val + 1, out_next3 hi3⟩) (k3_off6_eq i) _ _ (by show t.val % 2 ≠ ((i 0).val + 1) % 2; omega)
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H7]
  · iexists _; isplitr; swap; (· iexact H7); ipureintro
    refine (View.read_writes_full _ _ _ _ _).trans ?_
    rw [View.readAt_full, View.readAt_full, View.readAt_full, e2, e3, e4]
    exact congrArg₂ (fun y z => k3_pay1 (k3_pay7 Xh y) (k3_pay8 Xx) z Xs) (DownIn.load ht10 ((k3_off7_eq i).trans (by rw [ht])) _)
      (ExpertIn.load ht11 ((k3_off8_eq i).trans (by rw [ht])) _)
  isplitl [Hs_src]; · iexact Hs_src
  isplitl [Hr_src]; · iexact Hr_src
  isplitl [Hs_dst]; · iexists _; iexact Hs_dst
  isplitl [Hr_dst]; · iexists _; iexact Hr_dst
  isplitl [H10]
  · iexists _; isplitr; swap; (· iexact H10); ipureintro
    exact ⟨ht10, hu10⟩
  isplitl [H11]
  · iexists _; isplitr; swap; (· iexact H11); ipureintro
    exact ⟨ht11, hu11⟩
  isplitl [Hs]; · iexact Hs
  isplitl [Hr]; · iexact Hr
  iexists _; isplitr; swap; (· iexact HO); ipureintro
  intro q hq
  rcases Finset.mem_insert.mp hq with h | h
  · exact .inr (congrArg Prod.snd h)
  rcases Finset.mem_insert.mp h with h | h
  · exact .inr (congrArg Prod.snd h)
  · exact .inl h

/-- The first point, which fetches and casts the first two slabs before it multiplies. -/
theorem out_run_first (Q : PUnit → sProp 𝕄) (ht : (i 0).val = (0 : Fin 8).val) (hi1 : k3_first i = 1#1) (hi2 : ¬ k3_cond2 i = 1#1) (hi3 : ¬ k3_cond3 i = 1#1)
    (f8 : Buf (Elt F) ((aW).view.loc (c : Thread nD τ))) (f9 : Buf (Elt F) ((bW).view.loc (c : Thread nD τ))) (f10 : Buf (Elt F) ((pW).view.loc (c : Thread nD τ))) (f11 : Buf (Elt F) ((qW).view.loc (c : Thread nD τ))) (O : CellTallies nD τ sig (HIx 1)) (W : Waits sig (HIx 1)) :
    iprop(owns (c : Thread nD τ) M2 fullShare Xh ∗ owns (c : Thread nD τ) M3 fullShare Xx ∗ owns (c : Thread nD τ) M4 fullShare Xs ∗ owns (c : Thread nD τ) M7 fullShare d7
        ∗ ((down 0).view.loc (c : Thread nD τ) ↦[(down 0).view.set]{fullShare} D) ∗ ((expert 0).view.loc (c : Thread nD τ) ↦[(expert 0).view.set]{fullShare} E) ∗ ((aW).view.loc (c : Thread nD τ) ↦{fullShare} f8) ∗ ((bW).view.loc (c : Thread nD τ) ↦{fullShare} f9) ∗ ((pW).view.loc (c : Thread nD τ) ↦{fullShare} f10) ∗ ((qW).view.loc (c : Thread nD τ) ↦{fullShare} f11) ∗ semVal ((c : Thread nD τ), .dma cc3_scratch4.sem) 0 ∗ semVal ((c : Thread nD τ), .dma cc3_scratch5.sem) 0 ∗ (Transfers.MayWaits (c : Thread nD τ) (none : HIx 1) O : sProp 𝕄) ∗ owes (c : Thread nD τ) O W
        ∗ (iprop(owns (c : Thread nD τ) M2 fullShare Xh ∗ owns (c : Thread nD τ) M3 fullShare Xx ∗ owns (c : Thread nD τ) M4 fullShare Xs ∗ owns (c : Thread nD τ) M7 fullShare (outBlock c D E Xh Xx Xs 0)
            ∗ ((down 0).view.loc (c : Thread nD τ) ↦[(down 0).view.set]{fullShare} D) ∗ ((expert 0).view.loc (c : Thread nD τ) ↦[(expert 0).view.set]{fullShare} E) ∗ (∃ f : Buf (Elt F) ((aW).view.loc (c : Thread nD τ)), (aW).view.loc (c : Thread nD τ) ↦{fullShare} f) ∗ (∃ f : Buf (Elt F) ((bW).view.loc (c : Thread nD τ)), (bW).view.loc (c : Thread nD τ) ↦{fullShare} f)
            ∗ (∃ f : Buf (Elt F) ((pW).view.loc (c : Thread nD τ)), ⌜DownIn c D 0 f⌝ ∗ (pW).view.loc (c : Thread nD τ) ↦{fullShare} f)
            ∗ (∃ f : Buf (Elt F) ((qW).view.loc (c : Thread nD τ)), ⌜ExpertIn c E 0 f⌝ ∗ (qW).view.loc (c : Thread nD τ) ↦{fullShare} f)
            ∗ semVal ((c : Thread nD τ), .dma cc3_scratch4.sem) 0 ∗ semVal ((c : Thread nD τ), .dma cc3_scratch5.sem) 0 ∗ ∃ W', ⌜∀ p ∈ W', p ∈ W ∨ p.2 = none⌝ ∗ owes (c : Thread nD τ) O W') -∗ Q ⟨⟩))
      ⊢ wp frame (wpE (defs₀ (F := F)) 𝒱₀ (c : Thread nD τ) none) Set.univ (cc3__out_body i M2 h2 M3 h3 M4 h4 dW (Memref.isWhole_whole _) eW (Memref.isWhole_whole _) M7 h7 aW (Memref.isWhole_whole _) bW (Memref.isWhole_whole _) pW (Memref.isWhole_whole _) qW (Memref.isWhole_whole _) cc3_scratch4 cc3_scratch5) Q := by
  rw [cc3__out_body_eq_skeleton]
  unfold cc3__out_body_skel owns
  rw [k3_part2_eq_skeleton]
  unfold k3_part2_skel
  rw [dif_pos hi1, dif_neg hi2, dif_neg hi3]
  iintro ⟨⟨%f2, %e2, H2⟩, ⟨%f3, %e3, H3⟩, ⟨%f4, %e4, H4⟩, ⟨%f7, -, H7⟩, H5, H6, H8, H9, H10, H11, Hs, Hr, Hmw, HO, Hk⟩
  sl_exec
  have h10 : DownIn c D 0 ((pW).view.writes (Elt F) f10 (out_run_first.sl.H10_1 c D f8)) := by
    sl_unfold_run_names
    exact DownIn.stored f10 rfl _ (congrArg k3_pay2 ((View.readAt_full (s := S512x4096) _ _ _).trans (View.read_write_univ _ _)))
  have h11 : ExpertIn c E 0 ((qW).view.writes (Elt F) f11 (out_run_first.sl.H11_1 c E f9)) := by
    sl_unfold_run_names
    exact ExpertIn.stored f11 rfl _ (congrArg k3_pay5 ((View.readAt_full (s := S4096x512) _ _ _).trans (View.read_write_univ _ _)))
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H7]
  · iexists _; isplitr; swap; (· iexact H7); ipureintro
    refine (View.read_writes_full _ _ _ _ _).trans ?_
    rw [View.readAt_full, View.readAt_full, View.readAt_full, e2, e3, e4]
    exact congrArg₂ (fun y z => k3_pay1 (k3_pay7 Xh y) (k3_pay8 Xx) z Xs) (DownIn.load h10 ((k3_off7_eq i).trans (by rw [ht])) _)
      (ExpertIn.load h11 ((k3_off8_eq i).trans (by rw [ht])) _)
  isplitl [H5]; · iexact H5
  isplitl [H6]; · iexact H6
  isplitl [H8]; · iexists _; iexact H8
  isplitl [H9]; · iexists _; iexact H9
  isplitl [H10]
  · iexists _; isplitr; swap; (· iexact H10); ipureintro
    exact h10
  isplitl [H11]
  · iexists _; isplitr; swap; (· iexact H11); ipureintro
    exact h11
  isplitl [Hs]; · iexact Hs
  isplitl [Hr]; · iexact Hr
  iexists _; isplitr; swap; (· iexact HO); ipureintro
  intro q hq
  rcases Finset.mem_insert.mp hq with h | h
  · exact .inr (congrArg Prod.snd h)
  rcases Finset.mem_insert.mp h with h | h
  · exact .inr (congrArg Prod.snd h)
  · exact .inl h

end Body

/-! ## The points of the grid -/

/-- The first grid coordinate of point `t`. -/
theorem coords3_0 (t : Fin grid3.N) : (grid3.coords t 0).val = t.val / 16 := by
  have : t.val < 128 := lt_of_lt_of_eq t.isLt N_3
  rw [Pipeline.Grid.coords_val t 0 (S := 16) (B := 8) (by decide) rfl]; omega
/-- The second grid coordinate of point `t`. -/
theorem coords3_1 (t : Fin grid3.N) : (grid3.coords t 1).val = t.val % 16 := by
  rw [Pipeline.Grid.coords_val t 1 (S := 1) (B := 16) (by decide) rfl, Nat.div_one]

theorem k3_first_iff : ∀ i : grid3.Coords, k3_first i = 1#1 ↔ (i 0).val = 0 ∧ (i 1).val = 0 := by decide +kernel
theorem k3_cond2_iff : ∀ i : grid3.Coords, k3_cond2 i = 1#1 ↔ (i 1).val = 1 ∧ (i 0).val + 1 < 8 := by decide +kernel
theorem k3_cond3_iff : ∀ i : grid3.Coords, k3_cond3 i = 1#1 ↔ (i 1).val = 2 ∧ (i 0).val + 1 < 8 := by decide +kernel

theorem out_first_at (t : Fin grid3.N) : k3_first (grid3.coords t) = 1#1 ↔ t.val = 0 := by
  rw [k3_first_iff, coords3_0, coords3_1]; omega
theorem out_cond2_at (t : Fin grid3.N) : k3_cond2 (grid3.coords t) = 1#1 ↔ t.val % 16 = 1 ∧ t.val / 16 + 1 < 8 := by
  rw [k3_cond2_iff, coords3_0, coords3_1]
theorem out_cond3_at (t : Fin grid3.N) : k3_cond3 (grid3.coords t) = 1#1 ↔ t.val % 16 = 2 ∧ t.val / 16 + 1 < 8 := by
  rw [k3_cond3_iff, coords3_0, coords3_1]

section Invariant

/-- The slabs that lie in their slots after `n` points: the one in use, and the next one once it has come. -/
def Cast3 (n : ℕ) (t : Fin 8) : Prop := 0 < n ∧ n / 16 = t.val ∨ 3 ≤ n % 16 ∧ n / 16 + 1 = t.val

theorem Cast3.back {n : ℕ} {t : Fin 8} (h : Cast3 (n + 1) t) (h0 : n ≠ 0) (h3 : ¬ (n % 16 = 2 ∧ n / 16 + 1 < 8)) : Cast3 n t := by
  have := t.isLt
  unfold Cast3 at h ⊢
  omega

variable (c : Dev nD) (D : Buf (Elt F) ((c : Thread nD τ).loc main_arg2)) (E : Buf (Elt F) ((c : Thread nD τ).loc main_arg4))

/-- No slab on its way. -/
def still3 : sProp 𝕄 :=
  iprop(((dW).view.loc (c : Thread nD τ) ↦{fullShare} D) ∗ ((eW).view.loc (c : Thread nD τ) ↦{fullShare} E)
    ∗ (∃ f : Buf (Elt F) ((aW).view.loc (c : Thread nD τ)), (aW).view.loc (c : Thread nD τ) ↦{fullShare} f)
    ∗ (∃ f : Buf (Elt F) ((bW).view.loc (c : Thread nD τ)), (bW).view.loc (c : Thread nD τ) ↦{fullShare} f)
    ∗ semVal ((c : Thread nD τ), .dma cc3_scratch4.sem) 0 ∗ semVal ((c : Thread nD τ), .dma cc3_scratch5.sem) 0)

/-- The slabs `u` on their way, the rest of the weights kept. -/
def moving3 (u : Fin 8) : sProp 𝕄 :=
  iprop(downFlight c D u ∗ expertFlight c E u ∗ ((down u).view.loc (c : Thread nD τ) ↦[Finset.univ \ (down u).view.set]{fullShare} D)
    ∗ ((expert u).view.loc (c : Thread nD τ) ↦[Finset.univ \ (expert u).view.set]{fullShare} E))

/-- The weights and the scratches after `n` points. -/
def fetch3 (n : ℕ) : sProp 𝕄 := if h : n % 16 = 2 ∧ n / 16 + 1 < 8 then moving3 c D E ⟨n / 16 + 1, h.2⟩ else still3 c D E

/-- The kernel's invariant after `n` points. -/
def inv3 (O : CellTallies nD τ sig (HIx 1)) (n : ℕ) : sProp 𝕄 :=
  iprop(Pipeline.scopedRestBut (Ix := HIx 1) (Name := ℕ) (U := UU) (Lvl := ℕ) (Val := Elt F) spec3 c [cc3_scratch0, cc3_scratch1, cc3_scratch2, cc3_scratch3]
    ∗ (Transfers.MayWaits (c : Thread nD τ) (none : HIx 1) O : sProp 𝕄)
    ∗ (∃ f : Buf (Elt F) ((pW).view.loc (c : Thread nD τ)), ⌜∀ t, Cast3 n t → DownIn c D t f⌝ ∗ (pW).view.loc (c : Thread nD τ) ↦{fullShare} f)
    ∗ (∃ f : Buf (Elt F) ((qW).view.loc (c : Thread nD τ)), ⌜∀ t, Cast3 n t → ExpertIn c E t f⌝ ∗ (qW).view.loc (c : Thread nD τ) ↦{fullShare} f)
    ∗ fetch3 c D E n)

theorem down_split (u : Fin 8) : ((dW).view.loc (c : Thread nD τ) ↦{fullShare} D : sProp 𝕄)
    ⊣⊢ iprop(((down u).view.loc (c : Thread nD τ) ↦[(down u).view.set]{fullShare} D)
      ∗ ((down u).view.loc (c : Thread nD τ) ↦[Finset.univ \ (down u).view.set]{fullShare} D)) :=
  pointsTo_split_subset (Finset.subset_univ _)
theorem expert_split (u : Fin 8) : ((eW).view.loc (c : Thread nD τ) ↦{fullShare} E : sProp 𝕄)
    ⊣⊢ iprop(((expert u).view.loc (c : Thread nD τ) ↦[(expert u).view.set]{fullShare} E)
      ∗ ((expert u).view.loc (c : Thread nD τ) ↦[Finset.univ \ (expert u).view.set]{fullShare} E)) :=
  pointsTo_split_subset (Finset.subset_univ _)

end Invariant

section Region2

variable (V : (c : Dev nD) → (r : Ref sig .tc) → Buf (Elt F) ((c.tc : Thread nD τ).loc r))
  (O : Dev nD → CellTallies nD τ sig (HIx 1)) (b : ℕ)

/-- Window `w`'s block at point `t`, of the arrays as the region finds them. -/
abbrev blk3 (c : Dev nD) (w : Fin cfg3.W) (t : Fin cfg3.N) : ((cfg3.win w).xblock (cfg3.grid.coords t)).Idx → Elt F (cfg3.win w).elt :=
  ((cfg3.win w).blk t).view.read (Elt F) (V c (arrRef spec3 w))

theorem div16_lt (t : Fin cfg3.N) : t.val / 16 < 8 := by have : t.val < 128 := lt_of_lt_of_eq t.isLt N_3; omega

/-- The output kernel's proof data. -/
def dat3 (c : Dev nD) : DatOf F cfg3 c where
  A w := V c (arrRef spec3 w)
  after w t := match w with
    | ⟨0, _⟩ => blk3 V c 0 t
    | ⟨1, _⟩ => blk3 V c 1 t
    | ⟨2, _⟩ => blk3 V c 2 t
    | ⟨3, _⟩ => outBlock c (V c main_arg2) (V c main_arg4) (blk3 V c 0 t) (blk3 V c 1 t) (blk3 V c 2 t) ⟨t.val / 16, div16_lt t⟩
  Φ t := inv3 c (V c main_arg2) (V c main_arg4) (O c) t.val
  q _ := fullShare
  owed _ := O c
  recorded _ := below (F := F) c b

theorem before3_0 (c : Dev nD) (t : Fin cfg3.N) (d) : (dat3 V O b c).before 0 t d = blk3 V c 0 t :=
  (dat3 V O b c).before_in_eq_fetched 0 rfl (fun _ => rfl) (fun _ _ _ => rfl) (fun _ => rfl) t d
theorem before3_1 (c : Dev nD) (t : Fin cfg3.N) (d) : (dat3 V O b c).before 1 t d = blk3 V c 1 t :=
  (dat3 V O b c).before_in_eq_fetched 1 rfl (fun _ => rfl) (fun _ _ _ => rfl) (fun _ => rfl) t d
theorem before3_2 (c : Dev nD) (t : Fin cfg3.N) (d) : (dat3 V O b c).before 2 t d = blk3 V c 2 t :=
  (dat3 V O b c).before_in_eq_fetched 2 rfl (fun _ => rfl) (fun _ _ _ => rfl) (fun _ => rfl) t d

theorem defs₀_row3 (t : Fin cfg3.N) : defs₀ (F := F) .tc cfg3.body (cfg3.bodyArgs t (cfg3.slots t)) = bodyAt3 t := rfl

/-- The output kernel's body at any point. -/
theorem body3 (c : Dev nD) : BodyObligation (dat3 V O b c) (defs₀ (F := F)) 𝒱₀ none Set.univ := fun t => by
  rw [bigSep_W3, bigSep_W3, defs₀_row3]
  simp only [before3_0, before3_1, before3_2]
  rw [show (dat3 V O b c).Φ t.succ = inv3 c (V c main_arg2) (V c main_arg4) (O c) (t.val + 1) from rfl,
    show (dat3 V O b c).Φ t.castSucc = inv3 c (V c main_arg2) (V c main_arg4) (O c) t.val from rfl]
  have hlt := div16_lt t
  by_cases h0 : t.val = 0
  · have n2 : ¬ (t.val % 16 = 1 ∧ t.val / 16 + 1 < 8) := by omega
    have n3 : ¬ (t.val % 16 = 2 ∧ t.val / 16 + 1 < 8) := by omega
    have n3' : ¬ ((t.val + 1) % 16 = 2 ∧ (t.val + 1) / 16 + 1 < 8) := by omega
    have ht : (⟨t.val / 16, hlt⟩ : Fin 8) = 0 := Fin.ext (by show t.val / 16 = 0; omega)
    have hz : ∀ u : Fin 8, Cast3 (t.val + 1) u → u = 0 := fun u hu => Fin.ext (by unfold Cast3 at hu; show u.val = 0; omega)
    unfold inv3 fetch3
    rw [dif_neg n3, dif_neg n3']
    unfold still3
    iintro ⟨⟨Hr, #HM, ⟨%f10, -, H10⟩, ⟨%f11, -, H11⟩, H5, H6, ⟨%f8, H8⟩, ⟨%f9, H9⟩, Hs, Hq⟩, Howes, ⟨%d0, H0⟩, ⟨%d1, H1⟩, ⟨%d2, H2⟩, ⟨%d3, H3⟩⟩
    ihave Howes := (below_of_owesAt (dat3 V O b c) rfl rfl) $$ Howes
    icases Howes with ⟨%W, %hW, HO⟩
    ihave H5 := (down_split c (V c main_arg2) 0).1 $$ H5
    icases H5 with ⟨H5, H5r⟩
    ihave H6 := (expert_split c (V c main_arg4) 0).1 $$ H6
    icases H6 with ⟨H6, H6r⟩
    iapply (out_run_first c (V c main_arg2) (V c main_arg4) (grid3.coords t) _ _ _ _ _ _ _ _ (blk3 V c 0 t) (blk3 V c 1 t) (blk3 V c 2 t) _ _
      ((coords3_0 t).trans (by show t.val / 16 = 0; omega)) ((out_first_at t).2 h0)
      (fun h => n2 ((out_cond2_at t).1 h)) (fun h => n3 ((out_cond3_at t).1 h)) f8 f9 f10 f11 (O c) W)
    isplitl [H0]; · iexact H0
    isplitl [H1]; · iexact H1
    isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [Hs]; · iexact Hs
    isplitl [Hq]; · iexact Hq
    isplitl []; · iexact HM
    isplitl [HO]; · iexact HO
    iintro ⟨H0, H1, H2, H3, H5, H6, H8, H9, ⟨%f10', %h10, H10⟩, ⟨%f11', %h11, H11⟩, Hs, Hq, ⟨%W', %hW', HO⟩⟩
    isplitl [Hr H5 H5r H6 H6r H8 H9 H10 H11 Hs Hq]
    · isplitl [Hr]; · iexact Hr
      isplitl []; · iexact HM
      isplitl [H10]
      · iexists f10'; isplitr; swap; (· iexact H10); ipureintro
        intro u hu; rwa [hz u hu]
      isplitl [H11]
      · iexists f11'; isplitr; swap; (· iexact H11); ipureintro
        intro u hu; rwa [hz u hu]
      isplitl [H5 H5r]
      · iapply (down_split c (V c main_arg2) 0).2
        isplitl [H5] <;> iassumption
      isplitl [H6 H6r]
      · iapply (expert_split c (V c main_arg4) 0).2
        isplitl [H6] <;> iassumption
      isplitl [H8]; · iexact H8
      isplitl [H9]; · iexact H9
      isplitl [Hs]; · iexact Hs
      iexact Hq
    isplitl [HO]
    · iapply (owesAt_of_below (dat3 V O b c) rfl rfl)
      iexists W'; isplitr; swap; (· iexact HO); ipureintro
      exact below_of_grown hW hW'
    isplitl [H0]; · iexact H0
    isplitl [H1]; · iexact H1
    isplitl [H2]; · iexact H2
    rw [show (dat3 V O b c).after 3 t = outBlock c (V c main_arg2) (V c main_arg4) (blk3 V c 0 t) (blk3 V c 1 t) (blk3 V c 2 t) ⟨t.val / 16, hlt⟩ from rfl, ht]
    iexact H3
  have hcast : Cast3 t.val ⟨t.val / 16, hlt⟩ := .inl ⟨by omega, rfl⟩
  by_cases h2 : t.val % 16 = 1 ∧ t.val / 16 + 1 < 8
  · have n3 : ¬ (t.val % 16 = 2 ∧ t.val / 16 + 1 < 8) := by omega
    have n3' : (t.val + 1) % 16 = 2 ∧ (t.val + 1) / 16 + 1 < 8 := by omega
    unfold inv3 fetch3
    rw [dif_neg n3, dif_pos n3']
    unfold still3 moving3
    rw [show (dat3 V O b c).owesAt none t.succ = (dat3 V O b c).owesAt none t.castSucc from rfl]
    iintro ⟨⟨Hr, HM, ⟨%f10, %h10, H10⟩, ⟨%f11, %h11, H11⟩, H5, H6, ⟨%f8, H8⟩, ⟨%f9, H9⟩, Hs, Hq⟩, Howes, ⟨%d0, H0⟩, ⟨%d1, H1⟩, ⟨%d2, H2⟩, ⟨%d3, H3⟩⟩
    ihave H5 := (down_split c (V c main_arg2) ⟨(t.val + 1) / 16 + 1, n3'.2⟩).1 $$ H5
    icases H5 with ⟨H5, H5r⟩
    ihave H6 := (expert_split c (V c main_arg4) ⟨(t.val + 1) / 16 + 1, n3'.2⟩).1 $$ H6
    icases H6 with ⟨H6, H6r⟩
    iapply (out_run_send c (V c main_arg2) (V c main_arg4) (grid3.coords t) _ _ _ _ _ _ _ _ (blk3 V c 0 t) (blk3 V c 1 t) (blk3 V c 2 t) _ _
      ⟨t.val / 16, hlt⟩ ⟨(t.val + 1) / 16 + 1, n3'.2⟩ (coords3_0 t)
      (by show t.val / 16 + 1 = (t.val + 1) / 16 + 1; omega) (fun h => h0 ((out_first_at t).1 h))
      ((out_cond2_at t).2 h2) (fun h => n3 ((out_cond3_at t).1 h)) f8 f9 f10 (h10 _ hcast) f11 (h11 _ hcast))
    isplitl [H0]; · iexact H0
    isplitl [H1]; · iexact H1
    isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [Hs]; · iexact Hs
    isplitl [Hq]; · iexact Hq
    iintro ⟨H0, H1, H2, H3, H10, H11, Hf, Hg⟩
    isplitl [Hr HM H5r H6r H10 H11 Hf Hg]
    · isplitl [Hr]; · iexact Hr
      isplitl [HM]; · iexact HM
      isplitl [H10]
      · iexists f10; isplitr; swap; (· iexact H10); ipureintro
        exact fun u hu => h10 u (hu.back h0 n3)
      isplitl [H11]
      · iexists f11; isplitr; swap; (· iexact H11); ipureintro
        exact fun u hu => h11 u (hu.back h0 n3)
      isplitl [Hf]; · iexact Hf
      isplitl [Hg]; · iexact Hg
      isplitl [H5r]; · iexact H5r
      iexact H6r
    isplitl [Howes]; · iexact Howes
    isplitl [H0]; · iexact H0
    isplitl [H1]; · iexact H1
    isplitl [H2]; · iexact H2
    iexact H3
  by_cases h3 : t.val % 16 = 2 ∧ t.val / 16 + 1 < 8
  · have n3' : ¬ ((t.val + 1) % 16 = 2 ∧ (t.val + 1) / 16 + 1 < 8) := by omega
    have hz : ∀ u : Fin 8, Cast3 (t.val + 1) u → u = ⟨t.val / 16, hlt⟩ ∨ u = ⟨t.val / 16 + 1, h3.2⟩ := fun u hu => by
      unfold Cast3 at hu
      by_cases e : u.val = t.val / 16
      · exact .inl (Fin.ext e)
      · exact .inr (Fin.ext (by show u.val = t.val / 16 + 1; omega))
    unfold inv3 fetch3
    rw [dif_pos h3, dif_neg n3']
    unfold still3 moving3
    iintro ⟨⟨Hr, #HM, ⟨%f10, %h10, H10⟩, ⟨%f11, %h11, H11⟩, Hf, Hg, H5r, H6r⟩, Howes, ⟨%d0, H0⟩, ⟨%d1, H1⟩, ⟨%d2, H2⟩, ⟨%d3, H3⟩⟩
    ihave Howes := (below_of_owesAt (dat3 V O b c) rfl rfl) $$ Howes
    icases Howes with ⟨%W, %hW, HO⟩
    iapply (out_run_wait c (V c main_arg2) (V c main_arg4) (grid3.coords t) _ _ _ _ _ _ _ _ (blk3 V c 0 t) (blk3 V c 1 t) (blk3 V c 2 t) _ _
      ⟨t.val / 16, hlt⟩ ⟨t.val / 16 + 1, h3.2⟩ (coords3_0 t)
      rfl (fun h => h0 ((out_first_at t).1 h)) (fun h => h2 ((out_cond2_at t).1 h)) ((out_cond3_at t).2 h3)
      f10 (h10 _ hcast) f11 (h11 _ hcast) (O c) W)
    isplitl [H0]; · iexact H0
    isplitl [H1]; · iexact H1
    isplitl [H2]; · iexact H2
    isplitl [H3]; · iexact H3
    isplitl [Hf]; · iexact Hf
    isplitl [Hg]; · iexact Hg
    isplitl [H10]; · iexact H10
    isplitl [H11]; · iexact H11
    isplitl []; · iexact HM
    isplitl [HO]; · iexact HO
    iintro ⟨H0, H1, H2, H3, H5, H6, H8, H9, ⟨%f10', %h10', H10⟩, ⟨%f11', %h11', H11⟩, Hs, Hq, ⟨%W', %hW', HO⟩⟩
    isplitl [Hr H5 H5r H6 H6r H8 H9 H10 H11 Hs Hq]
    · isplitl [Hr]; · iexact Hr
      isplitl []; · iexact HM
      isplitl [H10]
      · iexists f10'; isplitr; swap; (· iexact H10); ipureintro
        intro u hu
        rcases hz u hu with e | e <;> rw [e]
        · exact h10'.1
        · exact h10'.2
      isplitl [H11]
      · iexists f11'; isplitr; swap; (· iexact H11); ipureintro
        intro u hu
        rcases hz u hu with e | e <;> rw [e]
        · exact h11'.1
        · exact h11'.2
      isplitl [H5 H5r]
      · iapply (down_split c (V c main_arg2) ⟨t.val / 16 + 1, h3.2⟩).2
        isplitl [H5] <;> iassumption
      isplitl [H6 H6r]
      · iapply (expert_split c (V c main_arg4) ⟨t.val / 16 + 1, h3.2⟩).2
        isplitl [H6] <;> iassumption
      isplitl [H8]; · iexact H8
      isplitl [H9]; · iexact H9
      isplitl [Hs]; · iexact Hs
      iexact Hq
    isplitl [HO]
    · iapply (owesAt_of_below (dat3 V O b c) rfl rfl)
      iexists W'; isplitr; swap; (· iexact HO); ipureintro
      exact below_of_grown hW hW'
    isplitl [H0]; · iexact H0
    isplitl [H1]; · iexact H1
    isplitl [H2]; · iexact H2
    iexact H3
  have n3' : ¬ ((t.val + 1) % 16 = 2 ∧ (t.val + 1) / 16 + 1 < 8) := by omega
  unfold inv3 fetch3
  rw [dif_neg h3, dif_neg n3']
  rw [show (dat3 V O b c).owesAt none t.succ = (dat3 V O b c).owesAt none t.castSucc from rfl]
  iintro ⟨⟨Hr, HM, ⟨%f10, %h10, H10⟩, ⟨%f11, %h11, H11⟩, Hf⟩, Howes, ⟨%d0, H0⟩, ⟨%d1, H1⟩, ⟨%d2, H2⟩, ⟨%d3, H3⟩⟩
  iapply (out_run_plain c (V c main_arg2) (V c main_arg4) (grid3.coords t) _ _ _ _ _ _ _ _ (blk3 V c 0 t) (blk3 V c 1 t) (blk3 V c 2 t) _ _
    ⟨t.val / 16, hlt⟩ (coords3_0 t) (fun h => h0 ((out_first_at t).1 h))
    (fun h => h2 ((out_cond2_at t).1 h)) (fun h => h3 ((out_cond3_at t).1 h)) f10 (h10 _ hcast) f11 (h11 _ hcast))
  isplitl [H0]; · iexact H0
  isplitl [H1]; · iexact H1
  isplitl [H2]; · iexact H2
  isplitl [H3]; · iexact H3
  isplitl [H10]; · iexact H10
  isplitl [H11]; · iexact H11
  iintro ⟨H0, H1, H2, H3, H10, H11⟩
  isplitl [Hr HM H10 H11 Hf]
  · isplitl [Hr]; · iexact Hr
    isplitl [HM]; · iexact HM
    isplitl [H10]
    · iexists f10; isplitr; swap; (· iexact H10); ipureintro
      exact fun u hu => h10 u (hu.back h0 h3)
    isplitl [H11]
    · iexists f11; isplitr; swap; (· iexact H11); ipureintro
      exact fun u hu => h11 u (hu.back h0 h3)
    iexact Hf
  isplitl [Howes]; · iexact Howes
  isplitl [H0]; · iexact H0
  isplitl [H1]; · iexact H1
  isplitl [H2]; · iexact H2
  iexact H3

/-- The kernel's own semaphores. -/
abbrev osem3 : Fin 2 → SemLoc sig := fun k => match k with
  | ⟨0, _⟩ => .dma cc3_scratch4.sem
  | ⟨1, _⟩ => .dma cc3_scratch5.sem

theorem rest3_split (c : Dev nD) : (scopedRest spec3 c : sProp 𝕄)
    = iprop(((∃ f : Buf (Elt F) ((c : Thread nD τ).loc cc3_scratch0), ((c : Thread nD τ).loc cc3_scratch0) ↦{fullShare} f)
      ∗ (∃ f : Buf (Elt F) ((c : Thread nD τ).loc cc3_scratch1), ((c : Thread nD τ).loc cc3_scratch1) ↦{fullShare} f)
      ∗ (∃ f : Buf (Elt F) ((c : Thread nD τ).loc cc3_scratch2), ((c : Thread nD τ).loc cc3_scratch2) ↦{fullShare} f)
      ∗ (∃ f : Buf (Elt F) ((c : Thread nD τ).loc cc3_scratch3), ((c : Thread nD τ).loc cc3_scratch3) ↦{fullShare} f))
      ∗ Pipeline.scopedRestBut (Ix := HIx 1) (Name := ℕ) (U := UU) (Lvl := ℕ) (Val := Elt F) spec3 c [cc3_scratch0, cc3_scratch1, cc3_scratch2, cc3_scratch3]) :=
  Pipeline.scopedRest_split_of_list spec3 c [cc3_scratch0, cc3_scratch1, cc3_scratch2, cc3_scratch3] (by decide) (by decide)

theorem sems3_eq (c : Dev nD) : (ownSems0 osem3 c : sProp 𝕄)
    = iprop(semVal ((c : Thread nD τ), .dma cc3_scratch4.sem) 0 ∗ semVal ((c : Thread nD τ), .dma cc3_scratch5.sem) 0) :=
  Pipeline.ownSems0_eq_of_list c osem3 [0, 1] (by decide) (by decide)

theorem held3_eq (c : Dev nD) : (bigSep {main_arg2, main_arg4} fun r => ((c.tc : Thread nD τ).loc r) ↦{fullShare} V c r : sProp 𝕄)
    = iprop(((dW).view.loc (c : Thread nD τ) ↦{fullShare} V c main_arg2) ∗ ((eW).view.loc (c : Thread nD τ) ↦{fullShare} V c main_arg4)) :=
  bigSep_eq_bigSepL_of_eq [main_arg2, main_arg4] (by decide) (by decide) _

/-- What the region enters with gives the invariant at the first point. -/
theorem hin3 (c : Dev nD) : iprop(scopedRest spec3 c ∗ ownSems0 osem3 c ∗ (bigSep {main_arg2, main_arg4} fun r => ((c.tc : Thread nD τ).loc r) ↦{fullShare} V c r)
    ∗ (Transfers.MayWaits (c.tc : Thread nD τ) (none : HIx 1) (O c) : sProp 𝕄)) ⊢ (dat3 V O b c).Φ 0 := by
  rw [show (dat3 V O b c).Φ 0 = inv3 c (V c main_arg2) (V c main_arg4) (O c) 0 from rfl, rest3_split, held3_eq, sems3_eq]
  unfold inv3 fetch3
  rw [dif_neg (by omega)]
  unfold still3
  iintro ⟨⟨⟨⟨%f8, H8⟩, ⟨%f9, H9⟩, ⟨%f10, H10⟩, ⟨%f11, H11⟩⟩, Hr⟩, ⟨Hs, Hq⟩, ⟨H5, H6⟩, HM⟩
  isplitl [Hr]; · iexact Hr
  isplitl [HM]; · iexact HM
  isplitl [H10]
  · iexists f10; isplitr; swap; (· iexact H10); ipureintro
    intro u hu; unfold Cast3 at hu; exact absurd hu (by omega)
  isplitl [H11]
  · iexists f11; isplitr; swap; (· iexact H11); ipureintro
    intro u hu; unfold Cast3 at hu; exact absurd hu (by omega)
  isplitl [H5]; · iexact H5
  isplitl [H6]; · iexact H6
  isplitl [H8]; · iexists f8; iexact H8
  isplitl [H9]; · iexists f9; iexact H9
  isplitl [Hs]; · iexact Hs
  iexact Hq

/-- The invariant after the last point gives back what the region entered with. -/
theorem hout3 (c : Dev nD) : (dat3 V O b c).Φ (Fin.last cfg3.N) ⊢ iprop(scopedRest spec3 c ∗ ownSems0 osem3 c
    ∗ (bigSep {main_arg2, main_arg4} fun r => ((c.tc : Thread nD τ).loc r) ↦{fullShare} V c r)) := by
  rw [show (dat3 V O b c).Φ (Fin.last cfg3.N) = inv3 c (V c main_arg2) (V c main_arg4) (O c) grid3.N from rfl, N_3, rest3_split, held3_eq, sems3_eq]
  unfold inv3 fetch3
  rw [dif_neg (by omega)]
  unfold still3
  iintro ⟨Hr, -, ⟨%f10, -, H10⟩, ⟨%f11, -, H11⟩, H5, H6, ⟨%f8, H8⟩, ⟨%f9, H9⟩, Hs, Hq⟩
  isplitl [Hr H8 H9 H10 H11]
  · isplitl [H8 H9 H10 H11]
    · isplitl [H8]; · iexists f8; iexact H8
      isplitl [H9]; · iexists f9; iexact H9
      isplitl [H10]; · iexists f10; iexact H10
      iexists f11; iexact H11
    iexact Hr
  isplitl [Hs Hq]
  · isplitl [Hs]; · iexact Hs
    iexact Hq
  isplitl [H5]; · iexact H5
  iexact H6

end Region2

end Cert.Proof.Top2
-- ==== Proof.Main.lean ====
/-
  The program's run: the contents of the TensorCore's buffers after each step of @main, each step's proof, and the run
  that the launch theorem makes of them.
-/
module

public import proofs.«01_k».proof.Proof.Launch
public import proofs.«01_k».proof.Proof.Gate
public import proofs.«01_k».proof.Proof.HBody
public import proofs.«01_k».proof.Proof.OutBody
public import Idealize.ShloMosaic.Lib.Pipeline.FrameSuffix

@[expose] public section

noncomputable section

namespace Cert.Proof.Top2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation OwnSemFacts LaunchFacts RegionSeg restRefs arrRef ownSems0 scopedRest withArrays ucRefs)
open Idealize.ShloMosaic.StableHlo (held wp_hlo_within)

variable {F : FTy → Type} [FloatOps F]

local notation "𝕄" => MT nD τ sig (HIx 1) (Elt F) ℕ UU ℕ

/-! ## The buffers' contents along @main -/

/-- A device's TensorCore buffers, read off a valuation of all its buffers. -/
abbrev tcOf (W : Dev nD → Valuation τ sig (Elt F)) (c : Dev nD) (r : Ref sig .tc) : Buf (Elt F) ((c.tc : Thread nD τ).loc r) :=
  W c (Proc.devRef .tc r)

/-- The four operations of @main: the gate's weights transposed, and cast; the logits transposed; the sums as a column. -/
abbrev opGateT : HloOp τ sig (Elt F) :=
  StableHlo.unary main_arg3 main_v0 ((transpose S4096x8 [1, 0] · transposes_S8x4096_S4096x8_1_0) : (⟨S8x4096, .f32⟩ : BufTy).Contents (Elt F) → (⟨S4096x8, .f32⟩ : BufTy).Contents (Elt F))
abbrev opGateC : HloOp τ sig (Elt F) :=
  StableHlo.unary main_v0 main_v1 ((truncf .bf16 · bitsLt_bf16_f32) : (⟨S4096x8, .f32⟩ : BufTy).Contents (Elt F) → (⟨S4096x8, .bf16⟩ : BufTy).Contents (Elt F))
abbrev opLogitT : HloOp τ sig (Elt F) :=
  StableHlo.unary main_v2_1 main_v3 ((transpose S8x8192 [1, 0] · transposes_S8192x8_S8x8192_1_0) : (⟨S8192x8, .f32⟩ : BufTy).Contents (Elt F) → (⟨S8x8192, .f32⟩ : BufTy).Contents (Elt F))
abbrev opSumCol : HloOp τ sig (Elt F) :=
  StableHlo.reshape main_v4 main_v5 (rfl : (.f32 : EltTy) = .f32) shapeCasts_S1x8192_S8192x1

/-- What the TensorCore owes before and after the SparseCore call. -/
abbrev O0 (c : Dev nD) : CellTallies nD τ sig (HIx 1) := (K (F := F)).Otc c 0
abbrev O1 (c : Dev nD) : CellTallies nD τ sig (HIx 1) := (K (F := F)).Otc c 1

/-- The buffers a pipeline leaves: its arrays as its write-backs leave them, the rest as before. -/
def left0 (W : Dev nD → Valuation τ sig (Elt F)) (d : Dev nD) : Valuation τ sig (Elt F) :=
  withArrays spec0 d (W d) fun w => (dat0 (tcOf W) (O0 (F := F)) (8 * 0) d).arrAt w cfg0.N
def left2 (W : Dev nD → Valuation τ sig (Elt F)) (d : Dev nD) : Valuation τ sig (Elt F) :=
  withArrays spec2 d (W d) fun w => (dat2 (tcOf W) (O1 (F := F)) (8 * 1) d).arrAt w cfg2.N
def left3 (W : Dev nD → Valuation τ sig (Elt F)) (d : Dev nD) : Valuation τ sig (Elt F) :=
  withArrays spec3 d (W d) fun w => (dat3 (tcOf W) (O1 (F := F)) (8 * 1) d).arrAt w cfg3.N

section Chain

variable (m : (ℓ : Loc nD τ sig) → Buf (Elt F) ℓ)

/-- At the launch; with the gate's weights transposed; with them cast. -/
def W0 (d : Dev nD) : Valuation τ sig (Elt F) := fun b => m (d, b)
def W1 (d : Dev nD) : Valuation τ sig (Elt F) := opGateT.result (W0 m d)
def W2 (d : Dev nD) : Valuation τ sig (Elt F) := opGateC.result (W1 m d)
/-- After the gate's pipeline; with the logits transposed. -/
def W3 (d : Dev nD) : Valuation τ sig (Elt F) := left0 (W2 m) d
def W4 (d : Dev nD) : Valuation τ sig (Elt F) := opLogitT.result (W3 m d)
/-- The logits, transposed, that the SparseCore call is handed. -/
def logits (d : Dev nD) : Buf (Elt F) (xLoc d) := W4 m d (Proc.devRef .tc main_v3)
/-- After the SparseCore call; with the sums as a column. -/
def W5 (d : Dev nD) : Valuation τ sig (Elt F) :=
  Function.update (W4 m d) (Proc.devRef .tc main_v4) (rowTop2 (logits m d) : Buf (Elt F) (oLoc d))
def W6 (d : Dev nD) : Valuation τ sig (Elt F) := opSumCol.result (W5 m d)
/-- After the hidden layer's pipeline; after the output's. -/
def W7 (d : Dev nD) : Valuation τ sig (Elt F) := left2 (W6 m) d
def W8 (d : Dev nD) : Valuation τ sig (Elt F) := left3 (W7 m) d

end Chain

/-! ## The regions -/

/-- Proof data of every pipeline, idle but for one. -/
def pd0 (W : Dev nD → Valuation τ sig (Elt F)) (p : Fin 3) (c : Dev nD) : DatOf F (cfgs p) c := match p with
  | ⟨0, _⟩ => dat0 (tcOf W) (O0 (F := F)) (8 * 0) c
  | ⟨1, _⟩ => idleDat c
  | ⟨2, _⟩ => idleDat c
def pd2 (W : Dev nD → Valuation τ sig (Elt F)) (p : Fin 3) (c : Dev nD) : DatOf F (cfgs p) c := match p with
  | ⟨0, _⟩ => idleDat c
  | ⟨1, _⟩ => dat2 (tcOf W) (O1 (F := F)) (8 * 1) c
  | ⟨2, _⟩ => idleDat c
def pd3 (W : Dev nD → Valuation τ sig (Elt F)) (p : Fin 3) (c : Dev nD) : DatOf F (cfgs p) c := match p with
  | ⟨0, _⟩ => idleDat c
  | ⟨1, _⟩ => idleDat c
  | ⟨2, _⟩ => dat3 (tcOf W) (O1 (F := F)) (8 * 1) c

/-- What is owed to the handshakes is owed above level `8 n`, so none of it at level 0. -/
theorem Otc_lev (n : ℕ) (c : Dev nD) (g : GSem nD τ sig) (i : HIx 1) (h : 0 < (K (F := F)).Otc c n g i) : 8 * n < (K (F := F)).lev g i :=
  (K (F := F)).lev_of_Otc_pos h
theorem Otc_none (n : ℕ) (c : Dev nD) (g : GSem nD τ sig) : (K (F := F)).Otc c n g none = 0 := by
  by_contra h
  exact absurd (Otc_lev n c g none (Nat.pos_of_ne_zero h)) (Nat.not_lt_zero _)

/-- No two windows of a pipeline share an array. -/
theorem arr_inj0 : Function.Injective (arrRef spec0) := by decide
theorem arr_inj2 : Function.Injective (arrRef spec2) := by decide
theorem arr_inj3 : Function.Injective (arrRef spec3) := by decide

section Regions

variable (W : Dev nD → Valuation τ sig (Elt F))

set_option backward.isDefEq.respectTransparency.types false in
/-- The gate's region, from the buffers at `W`. -/
def reg0 : RegionSeg (pcfgs (F := F)) adm (pd0 W) none (defs₀ (F := F)) 𝒱₀ (K (F := F)).L (K (F := F)).lev 0 :=
  region (pd0 W) 0 (fun k : PEmpty => k.elim) (OwnSemFacts.none _) ∅ (Finset.empty_subset _) launch0 (O0 (F := F)) (8 * 0)
    (Otc_none 0) (Otc_lev 0) (body0 (tcOf W) _ _) (fun _ _ => rfl) (fun _ _ => rfl)
    (fun c w => show (dat0 (tcOf W) (O0 (F := F)) (8 * 0) c).share w = fullShare from ite_self _)
    (tcOf W) (tcOf (left0 W)) (fun _ _ => rfl)
    (fun c w => (Pipeline.withArrays_arr spec0 arr_inj0 c (W c) (fun w => (dat0 (tcOf W) (O0 (F := F)) (8 * 0) c).arrAt w cfg0.N) w).symm)
    (fun c r hr => Pipeline.withArrays_of_ne spec0 c (W c) _ r fun w e => hr (Finset.mem_image.mpr ⟨w, Finset.mem_univ _, e⟩))
    (fun c => by
      show _ ⊢ (scopedRest spec0 c : sProp 𝕄)
      exact sep_elim_left)
    (fun c => by
      show (scopedRest spec0 c : sProp 𝕄) ⊢ _
      rw [Pipeline.ownSems0_none, bigSep_empty]
      iintro H
      isplitl [H]; · iexact H
      isplitr <;> iempintro)

set_option backward.isDefEq.respectTransparency.types false in
/-- The hidden layer's region. -/
def reg2 : RegionSeg (pcfgs (F := F)) adm (pd2 W) none (defs₀ (F := F)) 𝒱₀ (K (F := F)).L (K (F := F)).lev 1 :=
  region (pd2 W) 1 osem2 (by decide) {main_arg1} (by decide) launch2 (O1 (F := F)) (8 * 1)
    (Otc_none 1) (Otc_lev 1) (body2 (tcOf W) _ _) (fun _ _ => rfl) (fun _ _ => rfl)
    (fun c w => show (dat2 (tcOf W) (O1 (F := F)) (8 * 1) c).share w = fullShare from ite_self _)
    (tcOf W) (tcOf (left2 W)) (fun _ _ => rfl)
    (fun c w => (Pipeline.withArrays_arr spec2 arr_inj2 c (W c) (fun w => (dat2 (tcOf W) (O1 (F := F)) (8 * 1) c).arrAt w cfg2.N) w).symm)
    (fun c r hr => Pipeline.withArrays_of_ne spec2 c (W c) _ r fun w e => hr (Finset.mem_image.mpr ⟨w, Finset.mem_univ _, e⟩))
    (hin2 (tcOf W) _ _) (hout2 (tcOf W) _ _)

set_option backward.isDefEq.respectTransparency.types false in
/-- The output's region. -/
def reg3 : RegionSeg (pcfgs (F := F)) adm (pd3 W) none (defs₀ (F := F)) 𝒱₀ (K (F := F)).L (K (F := F)).lev 2 :=
  region (pd3 W) 2 osem3 (by decide) {main_arg2, main_arg4} (by decide) launch3 (O1 (F := F)) (8 * 1)
    (Otc_none 1) (Otc_lev 1) (body3 (tcOf W) _ _) (fun _ _ => rfl) (fun _ _ => rfl)
    (fun c w => show (dat3 (tcOf W) (O1 (F := F)) (8 * 1) c).share w = fullShare from ite_self _)
    (tcOf W) (tcOf (left3 W)) (fun _ _ => rfl)
    (fun c w => (Pipeline.withArrays_arr spec3 arr_inj3 c (W c) (fun w => (dat3 (tcOf W) (O1 (F := F)) (8 * 1) c).arrAt w cfg3.N) w).symm)
    (fun c r hr => Pipeline.withArrays_of_ne spec3 c (W c) _ r fun w e => hr (Finset.mem_image.mpr ⟨w, Finset.mem_univ _, e⟩))
    (hin3 (tcOf W) _ _) (hout3 (tcOf W) _ _)

end Regions

/-! ## The steps of @main -/

/-- The unscoped buffers of a device's TensorCore, held at a valuation. -/
abbrev heldAll (d : Dev nD) (W : Valuation τ sig (Elt F)) : sProp 𝕄 := held (T d) (ucRefs τ sig) W

/-- An operation of @main takes the buffers held from a valuation to the operation's result over it. -/
theorem wp_host (d : Dev nD) (op : HloOp τ sig (Elt F)) (h : op.bufs ⊆ StableHlo.tcRefs τ sig) (hf : op.fresh = ∅) (W : Valuation τ sig (Elt F))
    (Q : PUnit → sProp 𝕄) :
    iprop((boundary (T d) ∗ heldAll d W) ∗ ((boundary (T d) ∗ heldAll d (op.result W)) -∗ Q ⟨⟩))
      ⊢ wp frame (wpE ((K (F := F)).defs (D (F := F))) 𝒱 (T d) none) Set.univ (hlo rfl op fun _ => .ret ⟨⟩) Q := by
  iintro ⟨HB, HQ⟩
  iapply (wp_hlo_within 𝒱 (T d) none Set.univ (hp := rfl) (op := op) (Pipeline.sub_ucRefs op h) (hf := hf)) $$ HB
  iintro HB
  rw [wp_ret]
  imodintro
  iapply HQ; iexact HB

variable [∀ e, Nonempty (Elt F e)]

/-- A kernel's region as a step of @main. -/
theorem wp_region {pdats : (p : Fin 3) → (c : Dev nD) → Dat τ (Elt F) (HIx 1) ℕ UU ℕ (Pipeline.pin (pcfgs (F := F)) adm p) c} {p : Fin 3}
    (R : RegionSeg (pcfgs (F := F)) adm pdats none (defs₀ (F := F)) 𝒱₀ (K (F := F)).L (K (F := F)).lev p) (d : Dev nD) (Q : PUnit → sProp 𝕄) :
    iprop(levAts (K (F := F)).L (K (F := F)).lev ∗ boundary (T d) ∗ R.pre d
        ∗ (Pipeline.cellsGhost (Pipeline.pin (pcfgs (F := F)) adm) EP p d ∗ Pipeline.toksInit (Pipeline.pin (pcfgs (F := F)) adm) EP p d)
        ∗ ((boundary (T d) ∗ R.post d) -∗ Q ⟨⟩))
      ⊢ wp frame (wpE ((K (F := F)).defs (D (F := F))) 𝒱 (T d) none) Set.univ
          (Prog.lift (.customCall (SparseCore.inner (Pipeline.entry p)) ())) Q := by
  have hl := (K (F := F)).wp_liftProg (D (F := F)) 𝒱 (T d) (Name := ℕ) (U := UU) Set.univ none (Prog.lift (.customCall (Pipeline.entry p) ())) Q
  have h := Pipeline.RegionSeg.wp (pcfgs (F := F)) adm pdats none cellOf_inj EP (defs₀ (F := F)) 𝒱₀ (K (F := F)).L (K (F := F)).lev R d none
    (fun _ hu => nomatch hu) .ret Q
  iintro ⟨HL, HB, HR, ⟨HC, HT⟩, HQ⟩
  iapply hl
  iapply h
  isplitl [HQ]
  · iintro H
    rw [wp_ret]
    imodintro
    iapply HQ; iexact H
  isplitl [HB]; · iexact HB
  isplitl [HR]; · iexact HR
  isplitl [HL]; · iexact HL
  isplitl [HC] <;> iassumption

/-- The SparseCore call's operand and result, as device references. -/
abbrev callRefs : Finset (DevRef τ sig) := {Proc.devRef .tc main_v3, Proc.devRef .tc main_v4}

omit [∀ e, Nonempty (Elt F e)] in
/-- The buffers held are the call's two and the rest. -/
theorem held_call (d : Dev nD) (W : Valuation τ sig (Elt F)) : (heldAll d W : sProp 𝕄)
    = iprop(((xLoc d ↦{fullShare} W (Proc.devRef .tc main_v3)) ∗ (oLoc d ↦{fullShare} W (Proc.devRef .tc main_v4)))
        ∗ held (T d) (ucRefs τ sig \ callRefs) W) := by
  have hs : callRefs ⊆ ucRefs τ sig := by decide
  have h2 : (bigSep callRefs fun b => ((d, b) : Loc nD τ sig) ↦{fullShare} W b : sProp 𝕄)
      = iprop((xLoc d ↦{fullShare} W (Proc.devRef .tc main_v3)) ∗ (oLoc d ↦{fullShare} W (Proc.devRef .tc main_v4))) :=
    bigSep_eq_bigSepL_of_eq [Proc.devRef .tc main_v3, Proc.devRef .tc main_v4] (by decide) (by decide) _
  rw [← h2]
  exact bigSep_sdiff_split hs

omit [∀ e, Nonempty (Elt F e)] in
/-- Updating the call's result leaves the other buffers held as they were. -/
theorem held_rest_update (d : Dev nD) (W : Valuation τ sig (Elt F)) (f : Buf (Elt F) (oLoc d)) :
    (held (T d) (ucRefs τ sig \ callRefs) (Function.update W (Proc.devRef .tc main_v4) f) : sProp 𝕄) = held (T d) (ucRefs τ sig \ callRefs) W := by
  refine bigSep_congr fun b hb => ?_
  have hne : b ≠ Proc.devRef .tc main_v4 := fun e => (Finset.mem_sdiff.mp hb).2 (Finset.mem_insert_of_mem (Finset.mem_singleton.mpr e))
  rw [Function.update_of_ne hne]

variable (m : (ℓ : Loc nD τ sig) → Buf (Elt F) ℓ) (ρ : Dev nD → PrngReg)

omit [∀ e, Nonempty (Elt F e)] in
/-- The SparseCore call as a step of @main: the sums' row ends at each column's two largest logits, added. -/
theorem wp_call (κ : GSem nD τ sig → ℕ) (d : Dev nD) (Q : PUnit → sProp 𝕄) :
    iprop((K (F := F)).ctx EH (P (logits m)) κ ∗ (K (F := F)).tcSt EH d 0 ∗ heldAll d (W4 m d)
        ∗ (((K (F := F)).tcSt EH d 1 ∗ heldAll d (W5 m d)) -∗ Q ⟨⟩))
      ⊢ wp frame (wpE ((K (F := F)).defs (D (F := F))) 𝒱 (T d) none) Set.univ ((K (F := F)).run d 0) Q := by
  have h5 : (heldAll d (W5 m d) : sProp 𝕄) = iprop(((xLoc d ↦{fullShare} logits m d)
      ∗ (oLoc d ↦{fullShare} (rowTop2 (logits m d) : Buf (Elt F) (oLoc d)))) ∗ held (T d) (ucRefs τ sig \ callRefs) (W4 m d)) := by
    rw [held_call]
    unfold W5
    rw [held_rest_update, Function.update_self, Function.update_of_ne (by decide)]
    rfl
  rw [h5, held_call]
  iintro ⟨#Hctx, Hst, ⟨Hxo, Hrest⟩, HQ⟩
  iapply ((K (F := F)).wp_run (D (F := F)) 𝒱 (EH := EH) (P := P (logits m)) κ d 0) $$ [Hst Hxo Hrest HQ]
  isplitr; · iexact Hctx
  isplitl [Hst]; · iexact Hst
  isplitl [Hxo]
  · iapply (st_of_arrays (logits m) d (W4 m d (Proc.devRef .tc main_v4))); iexact Hxo
  iintro ⟨Hst, Hdn⟩
  ihave Hxo := (arrays_of_dn (logits m) d) $$ Hdn
  iapply HQ
  isplitl [Hst]; · iexact Hst
  isplitl [Hxo] <;> iassumption

omit [∀ e, Nonempty (Elt F e)] in
/-- What the TensorCore owes is part of its standing before call `n`. -/
theorem tcSt_owes (d : Dev nD) (n : ℕ) : (K (F := F)).tcSt EH d n
    ⊢ iprop(owesBelow F d ((K (F := F)).Otc d n) (8 * n) ∗ (owesBelow F d ((K (F := F)).Otc d n) (8 * n) -∗ (K (F := F)).tcSt EH d n)) := by
  unfold SparseCore.Cfg.tcSt
  iintro ⟨HO, Hrest⟩
  isplitl [HO]; · iexact HO
  iintro HO
  isplitl [HO]; · iexact HO
  iexact Hrest

/-- The pipelines' cells and tokens on a device. -/
abbrev ghost (p : Fin 3) (d : Dev nD) : sProp 𝕄 :=
  iprop(Pipeline.cellsGhost (Pipeline.pin (pcfgs (F := F)) adm) EP p d ∗ Pipeline.toksInit (Pipeline.pin (pcfgs (F := F)) adm) EP p d)
abbrev G (d : Dev nD) : sProp 𝕄 := iprop(ghost (F := F) 0 d ∗ ghost (F := F) 1 d ∗ ghost (F := F) 2 d)

/-- What the TensorCore ends with: its unscoped buffers at their last contents. -/
abbrev FIN (d : Dev nD) : sProp 𝕄 := heldAll d (W8 m d)

/-- A region entered from the buffers held and the standing before call `n`, and left to the same. -/
theorem region_step (W W' : Dev nD → Valuation τ sig (Elt F)) (n : ℕ) {pdats : (p : Fin 3) → (c : Dev nD) → Dat τ (Elt F) (HIx 1) ℕ UU ℕ (Pipeline.pin (pcfgs (F := F)) adm p) c} {p : Fin 3}
    (R : RegionSeg (pcfgs (F := F)) adm pdats none (defs₀ (F := F)) 𝒱₀ (K (F := F)).L (K (F := F)).lev p)
    (hpre : ∀ c, R.pre c = iprop(unscopedBufs c (tcOf W c) ∗ owesBelow F c ((K (F := F)).Otc c n) (8 * n)))
    (hpost : ∀ c, R.post c = iprop(unscopedBufs c (tcOf W' c) ∗ owesBelow F c ((K (F := F)).Otc c n) (8 * n)))
    (κ : GSem nD τ sig → ℕ) (d : Dev nD) (Q : PUnit → sProp 𝕄) :
    iprop((K (F := F)).ctx EH (P (logits m)) κ ∗ (boundary (T d) ∗ heldAll d (W d)) ∗ (K (F := F)).tcSt EH d n ∗ ghost (F := F) p d
        ∗ (((boundary (T d) ∗ heldAll d (W' d)) ∗ (K (F := F)).tcSt EH d n) -∗ Q ⟨⟩))
      ⊢ wp frame (wpE ((K (F := F)).defs (D (F := F))) 𝒱 (T d) none) Set.univ
          (Prog.lift (.customCall (SparseCore.inner (Pipeline.entry p)) ())) Q := by
  have e : ∀ V : Valuation τ sig (Elt F), (heldAll d V : sProp 𝕄) = unscopedBufs d (fun b => V b) := fun V => (Pipeline.unscopedBufs_held d V).symm
  rw [e, e]
  iintro ⟨#Hctx, ⟨HB, HU⟩, Hst, HG, HQ⟩
  ihave Hst := (tcSt_owes d n) $$ Hst
  icases Hst with ⟨HO, Hst⟩
  iapply (wp_region R d Q)
  rw [hpre, hpost]
  isplitr; · iapply (SparseCore.Cfg.ctx_levAts κ); iexact Hctx
  isplitl [HB]; · iexact HB
  isplitl [HU HO]; · isplitl [HU] <;> iassumption
  isplitl [HG]; · iexact HG
  iintro ⟨HB, HU, HO⟩
  iapply HQ
  isplitl [HB HU]; · isplitl [HB] <;> iassumption
  iapply Hst; iexact HO

/-- @main on a device's TensorCore: from its buffers at the launch to their last contents, its scoped semaphores at zero. -/
theorem hmain (κ : GSem nD τ sig → ℕ) (d : Dev nD) :
    iprop((K (F := F)).ctx EH (P (logits m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  have e : (unscopedBufs d (fun b => m ((SparseCore.T d : Thread nD τ).loc b)) : sProp 𝕄) = heldAll d (W0 m d) := Pipeline.unscopedBufs_held d (W0 m d)
  rw [e]
  simp only [main, wp_bind, wp_pure]
  iintro ⟨#Hctx, Hst, ⟨Hb, Hu, Hts, -⟩, ⟨HG0, HG1, HG2⟩⟩
  iapply (wp_host d opGateT (StableHlo.unary_bufs_sub _ _ _ _ _) rfl (W0 m d))
  isplitl [Hb Hu]; · isplitl [Hb] <;> iassumption
  iintro HB
  iapply (wp_host d opGateC (StableHlo.unary_bufs_sub _ _ _ _ _) rfl (W1 m d))
  isplitl [HB]; · iexact HB
  iintro HB
  iapply (region_step m (W2 m) (W3 m) 0 (reg0 (W2 m)) (fun _ => rfl) (fun _ => rfl) κ d)
  isplitr; · iexact Hctx
  isplitl [HB]; · iexact HB
  isplitl [Hst]; · iexact Hst
  isplitl [HG0]; · iexact HG0
  iintro ⟨HB, Hst⟩
  iapply (wp_host d opLogitT (StableHlo.unary_bufs_sub _ _ _ _ _) rfl (W3 m d))
  isplitl [HB]; · iexact HB
  iintro ⟨Hb, Hu⟩
  iapply (wp_call m κ d)
  isplitr; · iexact Hctx
  isplitl [Hst]; · iexact Hst
  isplitl [Hu]; · iexact Hu
  iintro ⟨Hst, Hu⟩
  iapply (wp_host d opSumCol (StableHlo.reshape_bufs_sub _ _ _ _ _ _) rfl (W5 m d))
  isplitl [Hb Hu]; · isplitl [Hb] <;> iassumption
  iintro HB
  iapply (region_step m (W6 m) (W7 m) 1 (reg2 (W6 m)) (fun _ => rfl) (fun _ => rfl) κ d)
  isplitr; · iexact Hctx
  isplitl [HB]; · iexact HB
  isplitl [Hst]; · iexact Hst
  isplitl [HG1]; · iexact HG1
  iintro ⟨HB, Hst⟩
  iapply (region_step m (W7 m) (W8 m) 1 (reg3 (W7 m)) (fun _ => rfl) (fun _ => rfl) κ d)
  isplitr; · iexact Hctx
  isplitl [HB]; · iexact HB
  isplitl [Hst]; · iexact Hst
  isplitl [HG2]; · iexact HG2
  iintro ⟨⟨Hb, Hu⟩, Hst⟩
  imodintro
  isplitl [Hst]; · iexact Hst
  isplitl [Hu]; · iexact Hu
  isplitl [Hb] <;> iassumption

/-! ## The launch element -/

/-- The element of the algebra the launch starts from: the handshakes' rounds and the pipelines' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [∀ e, Nonempty (Elt F e)] in
/-- Three pipelines' summands, listed. -/
theorem bigSep_three (Φ : Fin 3 → sProp 𝕄) : bigSep Finset.univ Φ = iprop(Φ 0 ∗ Φ 1 ∗ Φ 2) :=
  bigSep_eq_bigSepL_of_eq [0, 1, 2] (by decide) (by decide) Φ

omit [∀ e, Nonempty (Elt F e)] in
/-- The pipelines' rounds are the right part's left part. -/
theorem own_pipes (a : UP) : (BI.own ((embR : Emb (UP × Counters) 𝕄) (a, 1)) : sProp 𝕄) ⊢ BI.own ((EP : Emb UP 𝕄) a) := .rfl

omit [∀ e, Nonempty (Elt F e)] in
/-- The launch element gives the handshakes' rounds, every device's pipelines' cells and tokens, and nothing else. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (logits m)).x q thr) := by
  unfold u₀
  have hx : (bigSep Finset.univ fun thr : Thread nD τ => bigSep Finset.univ fun q : Fin 1 => (P (logits m)).x q thr : sProp 𝕄) = iprop(emp) :=
    (bigSep_congr fun _ _ => bigSep_emp_const _).trans (bigSep_emp_const _)
  have hg : (bigSep Finset.univ fun d : Dev nD => G (F := F) d : sProp 𝕄)
      = iprop((bigSep Finset.univ fun d : Dev nD => bigSep Finset.univ fun p => Pipeline.cellsGhost (Pipeline.pin (pcfgs (F := F)) adm) EP p d)
        ∗ bigSep Finset.univ fun d : Dev nD => bigSep Finset.univ fun p => (Pipeline.toksInit (Pipeline.pin (pcfgs (F := F)) adm) EP p d : sProp 𝕄)) := by
    rw [← bigSep_sep']
    refine bigSep_congr fun d _ => ?_
    rw [← bigSep_sep', bigSep_three]
  rw [hx, hg]
  iintro Hu
  ihave H := (ownU_pair _ _) $$ Hu
  icases H with ⟨HH, HP⟩
  ihave HP := (own_pipes (F := F) _) $$ HP
  imod (Pipeline.fund_ghost (Pipeline.pin (pcfgs (F := F)) adm) EP cellOf_inj) $$ HP with HG
  imodintro
  isplitl [HH]; · iexact HH
  isplitl [HG]; · iexact HG
  iempintro

/-! ## The run -/

/-- Device `d`'s unscoped buffers hold their last contents. -/
def fq (d : Dev nD) (s' : Phys nD τ sig (Elt F)) : Prop := ∀ b ∈ ucRefs τ sig, s'.mem.mem (d, b) = W8 m d b

omit [∀ e, Nonempty (Elt F e)] in
theorem hfin (d : Dev nD) (s' : Phys nD τ sig (Elt F)) : iprop(FIN m d ∗ SI s') ⊢ (⌜fq m d s'⌝ : sProp 𝕄) := by
  have h : iprop(SI s' ∗ FIN m d) ⊢ (⌜fq m d s'⌝ : sProp 𝕄) := SI_pointsTo_bufs_agree (nD := nD) (Ix := HIx 1) (Name := ℕ) (U := UU) (Lvl := ℕ) (st := s') (c := d) (qs := fun _ => fullShare) (F := W8 m d) (ucRefs τ sig)
  iintro ⟨HF, HS⟩
  iapply h
  isplitl [HS]; · iexact HS
  iexact HF

/-- The program's run from any memory: it ends with every device's unscoped buffers at their last contents and every
    counter at zero. -/
theorem run_main : θ_run (Cert.KernelIdeal.defs (F := F)) (Cert.KernelIdeal.threads (F := F)) ⟨m, fun _ => 0, ρ⟩
    fun r => (∀ d : Dev nD, ∀ b ∈ ucRefs τ sig, r.2.mem (d, b) = W8 m d b) ∧ r.2.sem = fun _ => 0 :=
  SparseCore.Cfg.θ_run_sc_quiescent (K := K (F := F)) (D := D (F := F)) (𝒱 := 𝒱) (EH := EH) (P := P (logits m)) (A := ∅) facts v₀
    (fun q hq => match q with | 0 => nomatch hq)
    (fun q _ => match q with | 0 => tileObl (logits m))
    (fun q _ => match q with | 0 => SparseCore.Cfg.VecSplit.of_plain (vecSplit (logits m)))
    m ρ main (G (F := F)) (FIN m) (u₀ (F := F)) (sep_elim_left.trans (hu₀ m)) (hmain m ρ) (fq m) (hfin m) _ (fun _ h hz => ⟨h, hz⟩)

end Cert.Proof.Top2
-- ==== Proof.Frames.lean ====
/-
  What the run leaves in the arguments of @main: what they held at the launch.
-/
module

public import proofs.«01_k».proof.Proof.Main

@[expose] public section

noncomputable section

namespace Cert.Proof.Top2

open Cert.KernelIdeal Cert.KernelIdeal.Gen
open Idealize.ShloMosaic
open Idealize.SL.Sem
open Idealize.ShloMosaic.TcCoe
open Idealize.ShloMosaic.Pipeline (Dat arrRef withArrays ucRefs)

variable {F : FTy → Type} [FloatOps F]

variable (m : (ℓ : Loc nD τ sig) → Buf (Elt F) ℓ) (d : Dev nD)

/-! ## One step at a buffer it does not write -/

theorem W1_ne (b : Ref sig .tc) (h : b ≠ main_v0) : W1 m d (Proc.devRef .tc b) = m (d, Proc.devRef .tc b) :=
  StableHlo.unary_result_ne' _ _ _ _ h
theorem W2_ne (b : Ref sig .tc) (h : b ≠ main_v1) : W2 m d (Proc.devRef .tc b) = W1 m d (Proc.devRef .tc b) :=
  StableHlo.unary_result_ne' _ _ _ _ h
theorem W3_ne (b : Ref sig .tc) (h : ∀ w, arrRef spec0 w ≠ b) : W3 m d (Proc.devRef .tc b) = W2 m d (Proc.devRef .tc b) :=
  Pipeline.withArrays_of_ne spec0 d (W2 m d) (fun w => (dat0 (tcOf (W2 m)) (O0 (F := F)) (8 * 0) d).arrAt w cfg0.N) b h
theorem W4_ne (b : Ref sig .tc) (h : b ≠ main_v3) : W4 m d (Proc.devRef .tc b) = W3 m d (Proc.devRef .tc b) :=
  StableHlo.unary_result_ne' _ _ _ _ h
theorem W5_ne (b : Ref sig .tc) (h : b ≠ main_v4) : W5 m d (Proc.devRef .tc b) = W4 m d (Proc.devRef .tc b) :=
  Function.update_of_ne (fun e => h (Proc.devRef_injective _ e)) _ _
theorem W6_ne (b : Ref sig .tc) (h : b ≠ main_v5) : W6 m d (Proc.devRef .tc b) = W5 m d (Proc.devRef .tc b) :=
  StableHlo.reshape_result_ne' _ _ _ _ _ h
theorem W7_ne (b : Ref sig .tc) (h : ∀ w, arrRef spec2 w ≠ b) : W7 m d (Proc.devRef .tc b) = W6 m d (Proc.devRef .tc b) :=
  Pipeline.withArrays_of_ne spec2 d (W6 m d) (fun w => (dat2 (tcOf (W6 m)) (O1 (F := F)) (8 * 1) d).arrAt w cfg2.N) b h
theorem W8_ne (b : Ref sig .tc) (h : ∀ w, arrRef spec3 w ≠ b) : W8 m d (Proc.devRef .tc b) = W7 m d (Proc.devRef .tc b) :=
  Pipeline.withArrays_of_ne spec3 d (W7 m d) (fun w => (dat3 (tcOf (W7 m)) (O1 (F := F)) (8 * 1) d).arrAt w cfg3.N) b h

/-- The gate's pipeline leaves its input as it was. -/
theorem W3_arg0 : W3 m d (Proc.devRef .tc main_arg0) = W2 m d (Proc.devRef .tc main_arg0) :=
  (Pipeline.withArrays_arr spec0 arr_inj0 d (W2 m d) (fun w => (dat0 (tcOf (W2 m)) (O0 (F := F)) (8 * 0) d).arrAt w cfg0.N) 0).trans
    ((dat0 (tcOf (W2 m)) (O0 (F := F)) (8 * 0) d).arrAt_in (w := 0) rfl cfg0.N)

/-- From the launch up to the hidden layer's pipeline, an argument other than the first is unchanged. -/
theorem W7_arg (b : Ref sig .tc) (h0 : b ≠ main_v0) (h1 : b ≠ main_v1) (h2 : W3 m d (Proc.devRef .tc b) = W2 m d (Proc.devRef .tc b))
    (h3 : b ≠ main_v3) (h4 : b ≠ main_v4) (h5 : b ≠ main_v5) (h6 : ∀ w, arrRef spec2 w ≠ b) :
    W7 m d (Proc.devRef .tc b) = m (d, Proc.devRef .tc b) := by
  rw [W7_ne m d b h6, W6_ne m d b h5, W5_ne m d b h4, W4_ne m d b h3, h2, W2_ne m d b h1, W1_ne m d b h0]

/-- So is each argument before the output kernel. -/
theorem W7_arg0 : W7 m d (Proc.devRef .tc main_arg0) = m (d, Proc.devRef .tc main_arg0) :=
  W7_arg m d _ (by decide) (by decide) (W3_arg0 m d) (by decide) (by decide) (by decide) (by decide)
theorem W7_arg1 : W7 m d (Proc.devRef .tc main_arg1) = m (d, Proc.devRef .tc main_arg1) :=
  W7_arg m d _ (by decide) (by decide) (W3_ne m d _ (by decide)) (by decide) (by decide) (by decide) (by decide)
theorem W7_arg2 : W7 m d (Proc.devRef .tc main_arg2) = m (d, Proc.devRef .tc main_arg2) :=
  W7_arg m d _ (by decide) (by decide) (W3_ne m d _ (by decide)) (by decide) (by decide) (by decide) (by decide)
theorem W7_arg3 : W7 m d (Proc.devRef .tc main_arg3) = m (d, Proc.devRef .tc main_arg3) :=
  W7_arg m d _ (by decide) (by decide) (W3_ne m d _ (by decide)) (by decide) (by decide) (by decide) (by decide)
theorem W7_arg4 : W7 m d (Proc.devRef .tc main_arg4) = m (d, Proc.devRef .tc main_arg4) :=
  W7_arg m d _ (by decide) (by decide) (W3_ne m d _ (by decide)) (by decide) (by decide) (by decide) (by decide)

/-! ## The arguments at the end -/

/-- At the end each argument is what it was at the launch. -/
theorem W8_arg0 : W8 m d (Proc.devRef .tc main_arg0) = m (d, Proc.devRef .tc main_arg0) :=
  (W8_ne m d _ (by decide)).trans (W7_arg0 m d)
theorem W8_arg1 : W8 m d (Proc.devRef .tc main_arg1) = m (d, Proc.devRef .tc main_arg1) :=
  (W8_ne m d _ (by decide)).trans (W7_arg1 m d)
theorem W8_arg2 : W8 m d (Proc.devRef .tc main_arg2) = m (d, Proc.devRef .tc main_arg2) :=
  (W8_ne m d _ (by decide)).trans (W7_arg2 m d)
theorem W8_arg3 : W8 m d (Proc.devRef .tc main_arg3) = m (d, Proc.devRef .tc main_arg3) :=
  (W8_ne m d _ (by decide)).trans (W7_arg3 m d)
theorem W8_arg4 : W8 m d (Proc.devRef .tc main_arg4) = m (d, Proc.devRef .tc main_arg4) :=
  (W8_ne m d _ (by decide)).trans (W7_arg4 m d)

/-- Every run of the program ends with @main's result at the last valuation, its arguments unchanged and every counter at
    zero. -/
theorem run_args [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_v7) = W8 m c (Proc.devRef .tc main_v7)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run Cert.KernelIdeal.defs _ _).mono (fun _ h =>
    ⟨fun c => ⟨h.1 c (Proc.devRef .tc main_v7) (by decide),
      (h.1 c (Proc.devRef .tc main_arg0) (by decide)).trans (W8_arg0 m c),
      (h.1 c (Proc.devRef .tc main_arg1) (by decide)).trans (W8_arg1 m c),
      (h.1 c (Proc.devRef .tc main_arg2) (by decide)).trans (W8_arg2 m c),
      (h.1 c (Proc.devRef .tc main_arg3) (by decide)).trans (W8_arg3 m c),
      (h.1 c (Proc.devRef .tc main_arg4) (by decide)).trans (W8_arg4 m c)⟩, h.2⟩) (run_main m ρ)

end Cert.Proof.Top2
-- ==== Proof.TopTwo.lean ====
/-
  The two largest of eight extended reals: the running largest and second that the SparseCore's fold keeps are the first
  two of the list that a descending sort makes.
-/
module

public import proofs.«01_k».proof.Proof.Setup
public import Idealize.ShloMosaic.Lib.SortFacts
public import Idealize.ShloMosaic.PureOps.Ideal.Laws

@[expose] public section

noncomputable section

namespace Cert.Proof.Top2

open Idealize.ShloMosaic

/-- `m` and `n` are the largest and the second largest of the first `k` numbers of `f`, at two positions. -/
def IsTop (f : Fin 8 → EReal) (k : Nat) (m n : EReal) : Prop :=
  ∃ p q : Fin 8, p.val < k ∧ q.val < k ∧ p ≠ q ∧ f p = m ∧ f q = n ∧ n ≤ m ∧ ∀ e : Fin 8, e.val < k → e ≠ p → e ≠ q → f e ≤ n

/-- The first two numbers. -/
theorem isTop_two (f : Fin 8 → EReal) : IsTop f 2 (max (f 0) (f 1)) (min (f 0) (f 1)) := by
  have h2 : ∀ e : Fin 8, e.val < 2 → e = 0 ∨ e = 1 := by decide
  rcases le_total (f 0) (f 1) with h | h
  · refine ⟨1, 0, by decide, by decide, by decide, (max_eq_right h).symm, (min_eq_left h).symm, min_le_max, fun e he h1 h0 => ?_⟩
    rcases h2 e he with r | r
    · exact absurd r h0
    · exact absurd r h1
  · refine ⟨0, 1, by decide, by decide, by decide, (max_eq_left h).symm, (min_eq_right h).symm, min_le_max, fun e he h0 h1 => ?_⟩
    rcases h2 e he with r | r
    · exact absurd r h0
    · exact absurd r h1

/-- One more number. -/
theorem isTop_step (f : Fin 8 → EReal) (k : Fin 8) (m n : EReal) (h : IsTop f k.val m n) :
    IsTop f (k.val + 1) (max m (f k)) (max n (min m (f k))) := by
  obtain ⟨p, q, hp, hq, hpq, rfl, rfl, hle, hall⟩ := h
  have hpk : k ≠ p := fun e => absurd hp (by rw [← e]; exact lt_irrefl _)
  have hqk : k ≠ q := fun e => absurd hq (by rw [← e]; exact lt_irrefl _)
  have hlt : ∀ e : Fin 8, e.val < k.val + 1 → e ≠ k → e.val < k.val := fun e he hne =>
    lt_of_le_of_ne (Nat.lt_succ_iff.mp he) fun h => hne (Fin.ext h)
  rcases le_total (f p) (f k) with h1 | h1
  · refine ⟨k, p, Nat.lt_succ_self _, Nat.lt_succ_of_lt hp, hpk, (max_eq_right h1).symm, ?_, ?_, fun e he hk hep => ?_⟩
    · rw [min_eq_left h1, max_eq_right hle]
    · rw [min_eq_left h1, max_eq_right hle, max_eq_right h1]; exact h1
    · rw [min_eq_left h1, max_eq_right hle]
      by_cases heq : e = q
      · rw [heq]; exact hle
      · exact (hall e (hlt e he hk) hep heq).trans hle
  · rw [max_eq_left h1, min_eq_right h1]
    rcases le_total (f q) (f k) with h2 | h2
    · rw [max_eq_right h2]
      refine ⟨p, k, Nat.lt_succ_of_lt hp, Nat.lt_succ_self _, hpk.symm, rfl, rfl, h1, fun e he hep hk => ?_⟩
      by_cases heq : e = q
      · rw [heq]; exact h2
      · exact (hall e (hlt e he hk) hep heq).trans h2
    · rw [max_eq_left h2]
      refine ⟨p, q, Nat.lt_succ_of_lt hp, Nat.lt_succ_of_lt hq, hpq, rfl, rfl, hle, fun e he hep heq => ?_⟩
      by_cases hk : e = k
      · rw [hk]; exact h2
      · exact hall e (hlt e he hk) hep heq

/-- The fold's value is the sum of the largest and the second largest. -/
theorem top2_isTop (f : Fin 8 → Ideal .f32) : ∃ m n : EReal, IsTop f 8 m n ∧ top2 (F := Ideal) f = m + n := by
  have h2 := isTop_two f
  have h3 := isTop_step f 2 _ _ h2
  have h4 := isTop_step f 3 _ _ h3
  have h5 := isTop_step f 4 _ _ h4
  have h6 := isTop_step f 5 _ _ h5
  have h7 := isTop_step f 6 _ _ h6
  have h8 := isTop_step f 7 _ _ h7
  exact ⟨_, _, h8, rfl⟩

/-- Two positions that hold a largest number and a largest of the rest hold the largest and the second largest. -/
theorem isTop_unique (f : Fin 8 → EReal) (m n : EReal) (h : IsTop f 8 m n) (a b : Fin 8) (hab : a ≠ b) (hba : f b ≤ f a)
    (hall : ∀ e, e ≠ a → e ≠ b → f e ≤ f b) : f a + f b = m + n := by
  obtain ⟨p, q, -, -, hpq, rfl, rfl, hle, hr⟩ := h
  have hrest : ∀ e, e ≠ p → f e ≤ f q := fun e he => by
    by_cases heq : e = q
    · rw [heq]
    · exact hr e e.isLt he heq
  have hrest' : ∀ e, e ≠ a → f e ≤ f b := fun e he => by
    by_cases heb : e = b
    · rw [heb]
    · exact hall e he heb
  by_cases hap : a = p
  · subst hap
    rw [le_antisymm (hrest b hab.symm) (hrest' q hpq.symm)]
  · have h1 : f p ≤ f b := hrest' p (Ne.symm hap)
    have h2 : f a ≤ f q := hrest a hap
    have e1 : f a = f p := le_antisymm (h2.trans hle) (h1.trans hba)
    have e2 : f b = f q := le_antisymm (hba.trans h2) (hle.trans h1)
    rw [e1, e2]

/-- "Greater" on the extended reals, as the sort asks it. -/
theorem gt_iff (a b : Ideal .f32) : (FloatOps.cmpfTotal (F := Ideal) .gt a b == 1#1) = decide ((b : EReal) < a) := by
  show (BitVec.ofBool (decide ((b : EReal) < a)) == 1#1) = _
  cases decide ((b : EReal) < a) <;> rfl

/-- The first two numbers of the descending sort of eight, added, are the fold's value. -/
theorem sort_top2 (f : Fin 8 → Ideal .f32) :
    (f (sortedFrom (fun k k' => FloatOps.cmpfTotal (F := Ideal) .gt (f k) (f k') == 1#1) 0) : EReal)
      + f (sortedFrom (fun k k' => FloatOps.cmpfTotal (F := Ideal) .gt (f k) (f k') == 1#1) 1) = top2 (F := Ideal) f := by
  have hB : (fun k k' => FloatOps.cmpfTotal (F := Ideal) .gt (f k) (f k') == 1#1) = fun k k' : Fin 8 => decide ((f k' : EReal) < f k) :=
    funext fun k => funext fun k' => gt_iff _ _
  rw [hB]
  set B : Fin 8 → Fin 8 → Bool := fun k k' => decide ((f k' : EReal) < f k) with hBdef
  have hs : ∀ i j : Fin 8, i < j → (f (sortedFrom B j) : EReal) ≤ f (sortedFrom B i) := fun i j hij => by
    have h := sortedFrom_noInversion B B
      (fun a b h => decide_eq_false (not_lt.mpr (le_of_lt (of_decide_eq_true h)))) (fun _ _ h => h)
      (fun a b c h1 h2 => decide_eq_false (not_lt.mpr ((not_lt.mp (of_decide_eq_false h1)).trans (not_lt.mp (of_decide_eq_false h2))))) i j hij
    exact not_lt.mp (of_decide_eq_false h)
  obtain ⟨m, n, ht, he⟩ := top2_isTop f
  rw [he]
  refine isTop_unique f m n ht _ _ (fun e => absurd (sortedFrom_injective B e) (by decide)) (hs 0 1 (by decide)) fun e h0 h1 => ?_
  obtain ⟨k, rfl⟩ := sortedFrom_surjective B e
  refine hs 1 k ?_
  have hk0 : k ≠ 0 := fun h => h0 (congrArg _ h)
  have hk1 : k ≠ 1 := fun h => h1 (congrArg _ h)
  exact (show ∀ k : Fin 8, k ≠ 0 → k ≠ 1 → 1 < k by decide) k hk0 hk1

end Cert.Proof.Top2
-- ==== Proof.RefValue.lean ====
/-
  The problem's value, index by index over the extended reals, and the reference's result read as that value.
-/
module

public import proofs.«01_k».proof.Proof.TopTwo
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof.Top2

open Idealize.ShloMosaic

/-- A matrix of extended reals. -/
abbrev Mat (a b : Nat) : Type := (⟨2, ![a, b]⟩ : Shape).Idx → EReal

/-- Row `r` of `x` times row `k` of `w`. -/
def dotRows {a b n : Nat} (x : Mat a n) (w : Mat b n) (r : Fin a) (k : Fin b) : EReal := ∑ l : Fin n, x (at2 r l) * w (at2 k l)

/-- The hidden layer: the rows of `x` times the rows of `up`, no less than zero. -/
def hidden (x : Mat 8192 4096) (up : Mat 4096 4096) : Mat 8192 4096 := fun i => max (dotRows x up (i 0) (i 1)) 0

/-- The routing weight of a row: the two largest of its eight logits, added. -/
def weight (x : Mat 8192 4096) (gate : Mat 8 4096) (r : Fin 8192) : EReal :=
  top2 (F := Ideal) fun e => dotRows x gate r e

/-- The problem's result. -/
def result (x : Mat 8192 4096) (up down : Mat 4096 4096) (gate : Mat 8 4096) (we : Mat 4096 4096) : Mat 8192 4096 := fun i =>
  dotRows (hidden x up) down (i 0) (i 1) + (∑ k : Fin 4096, x (at2 (i 0) k) * we (at2 k (i 1))) * weight x gate (i 0)

section Reference

open Cert.ReferenceIdeal Cert.ReferenceIdeal.Gen Cert.ReferenceIdeal.Read

variable (x : Mat 8192 4096) (up down : Mat 4096 4096) (gate : Mat 8 4096) (we : Mat 4096 4096)

/-- An index is the pair of its coordinates. -/
theorem at2_eta {a b : Nat} (i : (⟨2, ![a, b]⟩ : Shape).Idx) : at2 (i 0) (i 1) = i := funext fun
  | 0 => rfl
  | 1 => rfl

/-- Two indices with equal coordinates are equal. -/
theorem idx2_ext {a b : Nat} {i j : (⟨2, ![a, b]⟩ : Shape).Idx} (h0 : (i 0).val = (j 0).val) (h1 : (i 1).val = (j 1).val) : i = j :=
  funext fun
    | 0 => Fin.ext h0
    | 1 => Fin.ext h1

/-- The reference's logits. -/
theorem ref_logits (i : S8192x8.Idx) : val_main_v1 (F := Ideal) x gate i = dotRows x gate (i 0) (i 1) := by
  rw [val_main_v1_apply]
  refine Finset.sum_congr rfl fun k _ => ?_
  rw [val_main_v0_apply]
  exact congrArg₂ (· * ·) (congrArg x (idx2_ext rfl rfl)) (congrArg gate (idx2_ext rfl rfl))

/-- Moving along the second axis changes the second coordinate alone. -/
theorem along_at2 {a b : Nat} (i : (⟨2, ![a, b]⟩ : Shape).Idx) (k : Fin b) :
    Shape.Idx.along (s := ⟨2, ![a, b]⟩) i (1 : Fin 2) k = at2 (i 0) k := funext fun
  | 0 => rfl
  | 1 => rfl

/-- A value of a top-k of eight at a row: the row's element at the sort's position. -/
theorem topK_read (gt : EReal → EReal → BitVec 1) (g : Mat 8192 8) (r : Fin 8192) (k : Fin 2) :
    (Host.topK S8192x2 1 gt g sliceFits_S8192x8_S8192x2).1 (at2 r k)
      = g (at2 r (sortedFrom (fun e e' : Fin 8 => gt (g (at2 r e)) (g (at2 r e')) == 1#1) (k.castLE (by decide)))) := by
  unfold Host.topK
  dsimp only
  rw [extractStridedSlice_apply _ _ _ _ (at2 r (k.castLE (by decide)) : S8192x8.Idx)
    (fun a => match a with
      | ⟨0, _⟩ => (Nat.zero_add _).symm
      | ⟨1, _⟩ => (Nat.zero_add _).symm)]
  unfold Host.sort2
  rw [dif_pos (show 1 < S8192x8.rank by decide)]
  refine (congrArg g (along_at2 _ _)).trans (congrArg (fun B : Fin 8 → Fin 8 → Bool => g (at2 r (sortedFrom B (k.castLE (by decide)))))
    (funext fun e => funext fun e' => ?_))
  exact congrArg₂ (fun i j => gt (g i) (g j) == 1#1) (along_at2 (at2 r (k.castLE (by decide))) e) (along_at2 (at2 r (k.castLE (by decide))) e')

/-- The reference's two largest logits of a row, added. -/
theorem ref_weight (i : S8192x4096.Idx) : val_main_v10 (F := Ideal) x gate i = weight x gate (i 0) := by
  rw [val_main_v10_apply, val_main_v9_apply, val_main_v8_apply, val_main_cst_apply]
  rw [show (FloatOps.ofBits (F := Ideal) .f32 0x00000000#32 : EReal) = 0 from Ideal.ofBits_zero_f32, zero_add, Fin.sum_univ_two]
  unfold weight
  rw [← sort_top2]
  have hv : ∀ k : Fin 2, val_main_values (F := Ideal) x gate (idx_main_v8 (idx_main_v9 (idx_main_v10 i)) k)
      = dotRows x gate (i 0) (sortedFrom (fun e e' : Fin 8 => FloatOps.cmpfTotal (F := Ideal) (φ := .f32) .gt (dotRows x gate (i 0) e) (dotRows x gate (i 0) e') == 1#1)
        (k.castLE (by decide))) := fun k => by
    rw [show idx_main_v8 (idx_main_v9 (idx_main_v10 i)) k = at2 (i 0) k from idx2_ext rfl rfl]
    unfold val_main_values
    have hl : val_main_v1 (F := Ideal) x gate = fun i => dotRows x gate (i 0) (i 1) := funext fun i => ref_logits x gate i
    rw [hl]
    exact topK_read (FloatOps.cmpfTotal (F := Ideal) (φ := .f32) .gt) (fun i => dotRows x gate (i 0) (i 1)) (i 0) k
  rw [hv 0, hv 1]
  rfl

/-- The reference's hidden layer. -/
theorem ref_hidden (i : S8192x4096.Idx) : val_main_v4 (F := Ideal) x up i = hidden x up i := by
  rw [val_main_v4_apply, val_main_v3_apply, val_main_call0_v0_apply, val_main_call0_cst_apply]
  rw [show (FloatOps.ofBits (F := Ideal) .f32 0x00000000#32 : EReal) = 0 from Ideal.ofBits_zero_f32]
  refine congrArg (max · (0 : EReal)) (Finset.sum_congr rfl fun k _ => ?_)
  rw [val_main_v2_apply]
  exact congrArg₂ (· * ·) (congrArg x (idx2_ext rfl rfl)) (congrArg up (idx2_ext rfl rfl))

/-- The reference's result is the problem's. -/
theorem ref_result : val_main_v12 (F := Ideal) x up down gate we = result x up down gate we := by
  funext i
  rw [val_main_v12_apply, val_main_v11_apply, ref_weight, val_main_v6_apply, val_main_v7_apply]
  refine congrArg₂ (· + ·) (Finset.sum_congr rfl fun k _ => ?_) (congrArg (· * _) (Finset.sum_congr rfl fun k _ => ?_))
  · rw [ref_hidden, val_main_v5_apply]
    exact congrArg₂ (· * ·) (congrArg (hidden x up) (idx2_ext rfl rfl)) (congrArg down (idx2_ext rfl rfl))
  · exact congrArg₂ (· * ·) (congrArg x (idx2_ext rfl rfl)) (congrArg we (idx2_ext rfl rfl))

end Reference

end Cert.Proof.Top2
-- ==== Proof.Payload.lean ====
/-
  The kernels' arithmetic over the extended reals, read at an index.
-/
module

public import proofs.«01_k».proof.Proof.Main
public import proofs.«01_k».proof.Proof.RefValue
public import Idealize.ShloMosaic.Lib.MatmulPlain
public import Idealize.ShloMosaic.Lib.Pipeline.Value

@[expose] public section

noncomputable section

namespace Cert.Proof.Top2

open Cert.KernelIdeal Cert.KernelIdeal.Gen
open Idealize.ShloMosaic
open Idealize.ShloMosaic.TcCoe

/-- Two ways to write a pair of coordinates. -/
theorem ix2_eq_at2 {a b : Nat} (r : Fin a) (k : Fin b) : (ValueIdx.ix2 r k : (⟨2, ![a, b]⟩ : Shape).Idx) = at2 r k := idx2_ext rfl rfl

/-- A product over the left's columns and the right's rows, onto zero. -/
theorem plain_at2 {M K N : ℕ} {φ₁ φ₂ : FTy} (l : FVec Ideal ⟨2, ![M, K]⟩ φ₁) (r : FVec Ideal ⟨2, ![K, N]⟩ φ₂) (i : Fin M) (j : Fin N) :
    matmul (DotDims.plain M K N) none l r (constant (F := Ideal) ⟨2, ![M, N]⟩ .f32 0x00000000#32) (at2 i j)
      = ∑ k : Fin K, (l (at2 i k) : EReal) * (r (at2 k j) : EReal) := by
  have h := Ideal.matmul_plain_apply none l r (constant (F := Ideal) ⟨2, ![M, N]⟩ .f32 0x00000000#32) i j
  simp only [ix2_eq_at2] at h
  refine Eq.trans h ?_
  rw [show (constant (F := Ideal) ⟨2, ![M, N]⟩ .f32 0x00000000#32 (at2 i j) : EReal) = 0 from Ideal.ofBits_zero_f32, zero_add]

/-- A product over the columns of both, onto zero. -/
theorem rows_at2 {M K N : ℕ} {φ₁ φ₂ : FTy} (l : FVec Ideal ⟨2, ![M, K]⟩ φ₁) (r : FVec Ideal ⟨2, ![N, K]⟩ φ₂) (i : Fin M) (j : Fin N) :
    matmul (DotDims.transposedRhs M K N) none l r (constant (F := Ideal) ⟨2, ![M, N]⟩ .f32 0x00000000#32) (at2 i j)
      = ∑ k : Fin K, (l (at2 i k) : EReal) * (r (at2 j k) : EReal) := by
  have h := Ideal.matmul_transposedRhs_apply none l r (constant (F := Ideal) ⟨2, ![M, N]⟩ .f32 0x00000000#32) i j
  simp only [ix2_eq_at2] at h
  refine Eq.trans h ?_
  rw [show (constant (F := Ideal) ⟨2, ![M, N]⟩ .f32 0x00000000#32 (at2 i j) : EReal) = 0 from Ideal.ofBits_zero_f32, zero_add]

/-- The gate kernel's cast rows are its rows. -/
theorem pay_cast (X : Vec Ideal S1024x4096 .f32) (j : S1024x4096.Idx) : (k0_pay1 X j : EReal) = X j := rfl

/-- The gate kernel's logits. -/
theorem pay_logits (X : Vec Ideal S1024x4096 .f32) (G : Vec Ideal S4096x8 .bf16) (r : Fin 1024) (e : Fin 8) :
    (k0_pay2 X G (at2 r e) : EReal) = ∑ k : Fin 4096, (X (at2 r k) : EReal) * (G (at2 k e) : EReal) := by
  unfold k0_pay2
  rw [shapeCast_self]
  exact plain_at2 (k0_pay1 X) G r e

/-- The hidden-layer kernel's block. -/
theorem pay_hidden (X : Vec Ideal S1024x4096 .bf16) (U : Vec Ideal S512x4096 .f32) (r : Fin 1024) (n : Fin 512) :
    (k2_pay3 X (k2_pay1 U) (at2 r n) : EReal) = max (∑ k : Fin 4096, (X (at2 r k) : EReal) * (U (at2 n k) : EReal)) 0 := by
  unfold k2_pay3 k2_pay1
  rw [shapeCast_self, shapeCast_shapeCast]
  refine congrArg₂ max ?_ (Ideal.ofBits_zero_f32)
  exact rows_at2 X (truncf (F := Ideal) .bf16 U bitsLt_bf16_f32) r n

/-- The output kernel's shared product. -/
theorem pay_shared (X : Vec Ideal S512x4096 .bf16) (U : Vec Ideal S512x4096 .f32) (r : Fin 512) (n : Fin 512) :
    (k3_pay7 X (k3_pay2 U) (at2 r n) : EReal) = ∑ k : Fin 4096, (X (at2 r k) : EReal) * (U (at2 n k) : EReal) := by
  unfold k3_pay7 k3_pay2
  rw [shapeCast_self, shapeCast_shapeCast]
  exact rows_at2 X (truncf (F := Ideal) .bf16 U bitsLt_bf16_f32) r n

/-- The output kernel's block. -/
theorem pay_out (A : FVec Ideal S512x512 .f32) (X : Vec Ideal S512x4096 .bf16) (E : Vec Ideal S4096x512 .f32) (S : Vec Ideal S512x1 .f32)
    (r : Fin 512) (n : Fin 512) :
    (k3_pay1 A (k3_pay8 X) (k3_pay5 E) S (at2 r n) : EReal)
      = A (at2 r n) + (∑ k : Fin 4096, (X (at2 r k) : EReal) * (E (at2 k n) : EReal)) * S (at2 r 0) := by
  unfold k3_pay1 k3_pay8 k3_pay5
  rw [shapeCast_self, shapeCast_self, shapeCast_shapeCast]
  refine congrArg ((A (at2 r n) : EReal) + ·) (congrArg₂ (· * ·) ?_ ?_)
  · exact plain_at2 X (truncf (F := Ideal) .bf16 E bitsLt_bf16_f32) r n
  · exact broadcastTo_apply S broadcasts_S512x1_S512x512 (at2 r n) (at2 r 0 : S512x1.Idx) fun a => match a with
      | ⟨0, _⟩ => rfl
      | ⟨1, _⟩ => rfl

end Cert.Proof.Top2
-- ==== Proof.Blocks.lean ====
/-
  Where the blocks of the three pipelines and the weights' slabs lie in their arrays.
-/
module

public import proofs.«01_k».proof.Proof.Payload

@[expose] public section

noncomputable section

namespace Cert.Proof.Top2

open Cert.KernelIdeal Cert.KernelIdeal.Gen
open Idealize.ShloMosaic
open Idealize.ShloMosaic.TcCoe

variable {F : FTy → Type} [FloatOps F]

/-- The gate kernel has 8 points, the hidden-layer kernel 64, the output kernel 128. -/
theorem lt0 (t : Fin cfg0.N) : t.val < 8 := lt_of_lt_of_eq t.isLt N_0
theorem lt2 (t : Fin cfg2.N) : t.val < 64 := lt_of_lt_of_eq t.isLt N_2
theorem lt3 (t : Fin cfg3.N) : t.val < 128 := lt_of_lt_of_eq t.isLt N_3

/-! ## The gate kernel: point `t` has rows `1024 t` on -/

/-- The block indices of its windows, by point. -/
theorem index0_0 : ∀ t : Fin cfg0.N, win0_0.index t (0 : Fin 2) = t.val ∧ win0_0.index t (1 : Fin 2) = 0 := (by decide +kernel : ∀ t : Fin grid0.N, _)
theorem index0_1 : ∀ t : Fin cfg0.N, win0_1.index t (0 : Fin 2) = 0 ∧ win0_1.index t (1 : Fin 2) = 0 := (by decide +kernel : ∀ t : Fin grid0.N, _)
theorem index0_2 : ∀ t : Fin cfg0.N, win0_2.index t (0 : Fin 2) = t.val ∧ win0_2.index t (1 : Fin 2) = 0 := (by decide +kernel : ∀ t : Fin grid0.N, _)
theorem index0_3 : ∀ t : Fin cfg0.N, win0_3.index t (0 : Fin 2) = t.val ∧ win0_3.index t (1 : Fin 2) = 0 := (by decide +kernel : ∀ t : Fin grid0.N, _)

/-- An element of a window's block lies at the block's corner plus its own coordinates: so for each window. -/
theorem emb0_0 (t : Fin cfg0.N) (r : Fin 1024) (k : Fin 4096) :
    ((cfg0.win 0).blk t).view.emb (at2 r k : S1024x4096.Idx) = (at2 (⟨1024 * t.val + r.val, by have := lt0 t; omega⟩ : Fin 8192) k : S8192x4096.Idx) := by
  obtain ⟨e0, e1⟩ := index0_0 t
  funext a; apply Fin.ext
  match a with
  | ⟨0, _⟩ => show win0_0.index t (0 : Fin 2) * 1024 + 1 * r.val = 1024 * t.val + r.val; omega
  | ⟨1, _⟩ => show win0_0.index t (1 : Fin 2) * 4096 + 1 * k.val = k.val; omega

theorem emb0_1 (t : Fin cfg0.N) (j : S4096x8.Idx) : ((cfg0.win 1).blk t).view.emb j = j := by
  obtain ⟨e0, e1⟩ := index0_1 t
  funext a; apply Fin.ext
  match a with
  | ⟨0, _⟩ => show win0_1.index t (0 : Fin 2) * 4096 + 1 * (j 0).val = (j 0).val; omega
  | ⟨1, _⟩ => show win0_1.index t (1 : Fin 2) * 8 + 1 * (j 1).val = (j 1).val; omega

theorem emb0_2 (t : Fin cfg0.N) (r : Fin 1024) (k : Fin 4096) :
    ((cfg0.win 2).blk t).view.emb (at2 r k : S1024x4096.Idx) = (at2 (⟨1024 * t.val + r.val, by have := lt0 t; omega⟩ : Fin 8192) k : S8192x4096.Idx) := by
  obtain ⟨e0, e1⟩ := index0_2 t
  funext a; apply Fin.ext
  match a with
  | ⟨0, _⟩ => show win0_2.index t (0 : Fin 2) * 1024 + 1 * r.val = 1024 * t.val + r.val; omega
  | ⟨1, _⟩ => show win0_2.index t (1 : Fin 2) * 4096 + 1 * k.val = k.val; omega

theorem emb0_3 (t : Fin cfg0.N) (r : Fin 1024) (e : Fin 8) :
    ((cfg0.win 3).blk t).view.emb (at2 r e : S1024x8.Idx) = (at2 (⟨1024 * t.val + r.val, by have := lt0 t; omega⟩ : Fin 8192) e : S8192x8.Idx) := by
  obtain ⟨e0, e1⟩ := index0_3 t
  funext a; apply Fin.ext
  match a with
  | ⟨0, _⟩ => show win0_3.index t (0 : Fin 2) * 1024 + 1 * r.val = 1024 * t.val + r.val; omega
  | ⟨1, _⟩ => show win0_3.index t (1 : Fin 2) * 8 + 1 * e.val = e.val; omega

/-- The cast rows' blocks cover them. -/
theorem cover0_2 (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  let t : Fin cfg0.N := ⟨(i 0).val / 1024, lt_of_lt_of_eq (by omega : (i 0).val / 1024 < 8) N_0.symm⟩
  have e : ((cfg0.win 2).blk t).view.emb (at2 (⟨(i 0).val % 1024, by omega⟩ : Fin 1024) (⟨(i 1).val, h1⟩ : Fin 4096) : S1024x4096.Idx) = i :=
    (emb0_2 t _ _).trans (idx2_ext (a := 8192) (b := 4096)
      (by show 1024 * ((i 0).val / 1024) + (i 0).val % 1024 = (i 0).val; omega)
      rfl)
  exact ⟨t, flush0_2 t, e ▸ ((cfg0.win 2).blk t).view.emb_mem_set _⟩

/-- The logits' blocks cover them. -/
theorem cover0_3 (i : S8192x8.Idx) : ∃ t : Fin cfg0.N, (cfg0.win 3).flush t = true ∧ i ∈ ((cfg0.win 3).blk t).view.set := by
  have h0 : (i 0).val < 8192 := (i 0).isLt
  have h1 : (i 1).val < 8 := (i 1).isLt
  let t : Fin cfg0.N := ⟨(i 0).val / 1024, lt_of_lt_of_eq (by omega : (i 0).val / 1024 < 8) N_0.symm⟩
  have e : ((cfg0.win 3).blk t).view.emb (at2 (⟨(i 0).val % 1024, by omega⟩ : Fin 1024) (⟨(i 1).val, h1⟩ : Fin 8) : S1024x8.Idx) = i :=
    (emb0_3 t _ _).trans (idx2_ext (a := 8192) (b := 8)
      (by show 1024 * ((i 0).val / 1024) + (i 0).val % 1024 = (i 0).val; omega)
      rfl)
  exact ⟨t, flush0_3 t, e ▸ ((cfg0.win 3).blk t).view.emb_mem_set _⟩

/-! ## The hidden-layer kernel: point `t` has rows `1024 (t mod 8)` and columns `512 (t / 8)` on -/

/-- The block indices of its windows, by point. -/
theorem index2_0 : ∀ t : Fin cfg2.N, win2_0.index t (0 : Fin 2) = t.val % 8 ∧ win2_0.index t (1 : Fin 2) = 0 := (by decide +kernel : ∀ t : Fin grid2.N, _)
theorem index2_1 : ∀ t : Fin cfg2.N, win2_1.index t (0 : Fin 2) = t.val % 8 ∧ win2_1.index t (1 : Fin 2) = t.val / 8 := (by decide +kernel : ∀ t : Fin grid2.N, _)

/-- Where an element of a window's block lies in the array. -/
theorem emb2_0 (t : Fin cfg2.N) (r : Fin 1024) (k : Fin 4096) :
    ((cfg2.win 0).blk t).view.emb (at2 r k : S1024x4096.Idx) = (at2 (⟨1024 * (t.val % 8) + r.val, by omega⟩ : Fin 8192) k : S8192x4096.Idx) := by
  obtain ⟨e0, e1⟩ := index2_0 t
  funext a; apply Fin.ext
  match a with
  | ⟨0, _⟩ => show win2_0.index t (0 : Fin 2) * 1024 + 1 * r.val = 1024 * (t.val % 8) + r.val; omega
  | ⟨1, _⟩ => show win2_0.index t (1 : Fin 2) * 4096 + 1 * k.val = k.val; omega

theorem emb2_1 (t : Fin cfg2.N) (r : Fin 1024) (n : Fin 512) :
    ((cfg2.win 1).blk t).view.emb (at2 r n : S1024x512.Idx)
      = (at2 (⟨1024 * (t.val % 8) + r.val, by omega⟩ : Fin 8192) (⟨512 * (t.val / 8) + n.val, by have := lt2 t; omega⟩ : Fin 4096) : S8192x4096.Idx) := by
  obtain ⟨e0, e1⟩ := index2_1 t
  funext a; apply Fin.ext
  match a with
  | ⟨0, _⟩ => show win2_1.index t (0 : Fin 2) * 1024 + 1 * r.val = 1024 * (t.val % 8) + r.val; omega
  | ⟨1, _⟩ => show win2_1.index t (1 : Fin 2) * 512 + 1 * n.val = 512 * (t.val / 8) + n.val; omega

/-- The hidden layer's blocks cover it. -/
theorem cover2_1 (i : S8192x4096.Idx) : ∃ t : Fin cfg2.N, (cfg2.win 1).flush t = true ∧ i ∈ ((cfg2.win 1).blk t).view.set := by
  have h0 : (i 0).val < 8192 := (i 0).isLt
  have h1 : (i 1).val < 4096 := (i 1).isLt
  let t : Fin cfg2.N := ⟨8 * ((i 1).val / 512) + (i 0).val / 1024, lt_of_lt_of_eq (by omega : 8 * ((i 1).val / 512) + (i 0).val / 1024 < 64) N_2.symm⟩
  have e : ((cfg2.win 1).blk t).view.emb (at2 (⟨(i 0).val % 1024, by omega⟩ : Fin 1024) (⟨(i 1).val % 512, by omega⟩ : Fin 512) : S1024x512.Idx) = i :=
    (emb2_1 t _ _).trans (idx2_ext (a := 8192) (b := 4096)
      (by show 1024 * ((8 * ((i 1).val / 512) + (i 0).val / 1024) % 8) + (i 0).val % 1024 = (i 0).val; omega)
      (by show 512 * ((8 * ((i 1).val / 512) + (i 0).val / 1024) / 8) + (i 1).val % 512 = (i 1).val; omega))
  exact ⟨t, flush2_1 t, e ▸ ((cfg2.win 1).blk t).view.emb_mem_set _⟩

/-! ## The output kernel: point `t` has rows `512 (t mod 16)` and columns `512 (t / 16)` on -/

/-- The block indices of its windows, by point. -/
theorem index3_0 : ∀ t : Fin cfg3.N, win3_0.index t (0 : Fin 2) = t.val % 16 ∧ win3_0.index t (1 : Fin 2) = 0 := (by decide +kernel : ∀ t : Fin grid3.N, _)
theorem index3_1 : ∀ t : Fin cfg3.N, win3_1.index t (0 : Fin 2) = t.val % 16 ∧ win3_1.index t (1 : Fin 2) = 0 := (by decide +kernel : ∀ t : Fin grid3.N, _)
theorem index3_2 : ∀ t : Fin cfg3.N, win3_2.index t (0 : Fin 2) = t.val % 16 ∧ win3_2.index t (1 : Fin 2) = 0 := (by decide +kernel : ∀ t : Fin grid3.N, _)
theorem index3_3 : ∀ t : Fin cfg3.N, win3_3.index t (0 : Fin 2) = t.val % 16 ∧ win3_3.index t (1 : Fin 2) = t.val / 16 := (by decide +kernel : ∀ t : Fin grid3.N, _)

/-- Where an element of a window's block lies in the array. -/
theorem emb3_0 (t : Fin cfg3.N) (r : Fin 512) (k : Fin 4096) :
    ((cfg3.win 0).blk t).view.emb (at2 r k : S512x4096.Idx) = (at2 (⟨512 * (t.val % 16) + r.val, by omega⟩ : Fin 8192) k : S8192x4096.Idx) := by
  obtain ⟨e0, e1⟩ := index3_0 t
  funext a; apply Fin.ext
  match a with
  | ⟨0, _⟩ => show win3_0.index t (0 : Fin 2) * 512 + 1 * r.val = 512 * (t.val % 16) + r.val; omega
  | ⟨1, _⟩ => show win3_0.index t (1 : Fin 2) * 4096 + 1 * k.val = k.val; omega

theorem emb3_1 (t : Fin cfg3.N) (r : Fin 512) (k : Fin 4096) :
    ((cfg3.win 1).blk t).view.emb (at2 r k : S512x4096.Idx) = (at2 (⟨512 * (t.val % 16) + r.val, by omega⟩ : Fin 8192) k : S8192x4096.Idx) := by
  obtain ⟨e0, e1⟩ := index3_1 t
  funext a; apply Fin.ext
  match a with
  | ⟨0, _⟩ => show win3_1.index t (0 : Fin 2) * 512 + 1 * r.val = 512 * (t.val % 16) + r.val; omega
  | ⟨1, _⟩ => show win3_1.index t (1 : Fin 2) * 4096 + 1 * k.val = k.val; omega

theorem emb3_2 (t : Fin cfg3.N) (r : Fin 512) :
    ((cfg3.win 2).blk t).view.emb (at2 r 0 : S512x1.Idx) = (at2 (⟨512 * (t.val % 16) + r.val, by omega⟩ : Fin 8192) 0 : S8192x1.Idx) := by
  obtain ⟨e0, e1⟩ := index3_2 t
  funext a; apply Fin.ext
  match a with
  | ⟨0, _⟩ => show win3_2.index t (0 : Fin 2) * 512 + 1 * r.val = 512 * (t.val % 16) + r.val; omega
  | ⟨1, _⟩ => show win3_2.index t (1 : Fin 2) * 1 + 1 * 0 = 0; omega

theorem emb3_3 (t : Fin cfg3.N) (r : Fin 512) (n : Fin 512) :
    ((cfg3.win 3).blk t).view.emb (at2 r n : S512x512.Idx)
      = (at2 (⟨512 * (t.val % 16) + r.val, by omega⟩ : Fin 8192) (⟨512 * (t.val / 16) + n.val, by have := lt3 t; omega⟩ : Fin 4096) : S8192x4096.Idx) := by
  obtain ⟨e0, e1⟩ := index3_3 t
  funext a; apply Fin.ext
  match a with
  | ⟨0, _⟩ => show win3_3.index t (0 : Fin 2) * 512 + 1 * r.val = 512 * (t.val % 16) + r.val; omega
  | ⟨1, _⟩ => show win3_3.index t (1 : Fin 2) * 512 + 1 * n.val = 512 * (t.val / 16) + n.val; omega

/-- The result's blocks cover it. -/
theorem cover3_3 (i : S8192x4096.Idx) : ∃ t : Fin cfg3.N, (cfg3.win 3).flush t = true ∧ i ∈ ((cfg3.win 3).blk t).view.set := by
  have h0 : (i 0).val < 8192 := (i 0).isLt
  have h1 : (i 1).val < 4096 := (i 1).isLt
  let t : Fin cfg3.N := ⟨16 * ((i 1).val / 512) + (i 0).val / 512, lt_of_lt_of_eq (by omega : 16 * ((i 1).val / 512) + (i 0).val / 512 < 128) N_3.symm⟩
  have e : ((cfg3.win 3).blk t).view.emb (at2 (⟨(i 0).val % 512, by omega⟩ : Fin 512) (⟨(i 1).val % 512, by omega⟩ : Fin 512) : S512x512.Idx) = i :=
    (emb3_3 t _ _).trans (idx2_ext (a := 8192) (b := 4096)
      (by show 512 * ((16 * ((i 1).val / 512) + (i 0).val / 512) % 16) + (i 0).val % 512 = (i 0).val; omega)
      (by show 512 * ((16 * ((i 1).val / 512) + (i 0).val / 512) / 16) + (i 1).val % 512 = (i 1).val; omega))
  exact ⟨t, flush3_3 t, e ▸ ((cfg3.win 3).blk t).view.emb_mem_set _⟩

/-! ## The weights' slabs -/

/-- Slab `t` of the up weights has their rows `512 t` on. -/
theorem slab_read (c : Dev nD) (t : Fin 8) (X : Buf (Elt F) ((c : Thread nD τ).loc main_arg1)) (n : Fin 512) (k : Fin 4096) :
    (slab t).view.read (Elt F) X (at2 n k : S512x4096.Idx) = X (at2 (⟨512 * t.val + n.val, by omega⟩ : Fin 4096) k : S4096x4096.Idx) := by
  refine congrArg X (funext fun a => Fin.ext ?_)
  match a with
  | ⟨0, _⟩ => show 512 * t.val + 1 * n.val = 512 * t.val + n.val; omega
  | ⟨1, _⟩ => show 0 + 1 * k.val = k.val; omega

/-- Slab `t` of the down weights has their rows `512 t` on. -/
theorem down_read (c : Dev nD) (t : Fin 8) (X : Buf (Elt F) ((c : Thread nD τ).loc main_arg2)) (n : Fin 512) (k : Fin 4096) :
    (down t).view.read (Elt F) X (at2 n k : S512x4096.Idx) = X (at2 (⟨512 * t.val + n.val, by omega⟩ : Fin 4096) k : S4096x4096.Idx) := by
  refine congrArg X (funext fun a => Fin.ext ?_)
  match a with
  | ⟨0, _⟩ => show 512 * t.val + 1 * n.val = 512 * t.val + n.val; omega
  | ⟨1, _⟩ => show 0 + 1 * k.val = k.val; omega

/-- Slab `t` of the expert weights has their columns `512 t` on. -/
theorem expert_read (c : Dev nD) (t : Fin 8) (X : Buf (Elt F) ((c : Thread nD τ).loc main_arg4)) (k : Fin 4096) (n : Fin 512) :
    (expert t).view.read (Elt F) X (at2 k n : S4096x512.Idx) = X (at2 k (⟨512 * t.val + n.val, by omega⟩ : Fin 4096) : S4096x4096.Idx) := by
  refine congrArg X (funext fun a => Fin.ext ?_)
  match a with
  | ⟨0, _⟩ => show 0 + 1 * k.val = k.val; omega
  | ⟨1, _⟩ => show 512 * t.val + 1 * n.val = 512 * t.val + n.val; omega

end Cert.Proof.Top2
-- ==== Proof.Arrays.lean ====
/-
  What each TensorCore kernel leaves in its output arrays, over the extended reals.
-/
module

public import proofs.«01_k».proof.Proof.Blocks

@[expose] public section

noncomputable section

namespace Cert.Proof.Top2

open Cert.KernelIdeal Cert.KernelIdeal.Gen
open Idealize.ShloMosaic
open Idealize.ShloMosaic.SparseCore.Cfg (HIx)
open Idealize.ShloMosaic.TcCoe
open Idealize.ShloMosaic.Pipeline (Dat arrRef)

variable (V : (c : Dev nD) → (r : Ref sig .tc) → Buf (Elt Ideal) ((c.tc : Thread nD τ).loc r))
  (O : Dev nD → CellTallies nD τ sig (HIx 1)) (b : ℕ) (c : Dev nD)

/-- A buffer of a matrix, as that matrix. -/
abbrev x0 : Mat 8192 4096 := V c main_arg0
abbrev g1 : Mat 4096 8 := V c main_v1
abbrev xb : Mat 8192 4096 := V c main_v2_0
abbrev up1 : Mat 4096 4096 := V c main_arg1
abbrev h6 : Mat 8192 4096 := V c main_v6
abbrev s5 : Mat 8192 1 := V c main_v5
abbrev down2 : Mat 4096 4096 := V c main_arg2
abbrev we4 : Mat 4096 4096 := V c main_arg4

/-- The logits: the rows of `x` times the columns of the cast gate weights. -/
def gateOut (x : Mat 8192 4096) (g : Mat 4096 8) : Mat 8192 8 := fun i => ∑ k : Fin 4096, x (at2 (i 0) k) * g (at2 k (i 1))

/-- The output: the hidden layer's product with the second shared weights, and the expert's product scaled by the routing sums. -/
def outOut (h x : Mat 8192 4096) (s : Mat 8192 1) (down we : Mat 4096 4096) : Mat 8192 4096 := fun i =>
  dotRows h down (i 0) (i 1) + (∑ k : Fin 4096, x (at2 (i 0) k) * we (at2 k (i 1))) * s (at2 (i 0) 0)

/-! ## The gate kernel -/

/-- The elements of the input blocks. -/
theorem blk0_0 (t : Fin cfg0.N) (r : Fin 1024) (k : Fin 4096) :
    blk0 V c 0 t (at2 r k : S1024x4096.Idx) = x0 V c (at2 ⟨1024 * t.val + r.val, by have := lt0 t; omega⟩ k) :=
  congrArg (x0 V c) (emb0_0 t r k)
theorem blk0_1 (t : Fin cfg0.N) (j : S4096x8.Idx) : blk0 V c 1 t j = g1 V c j := congrArg (g1 V c) (emb0_1 t j)

/-- The gate kernel leaves `x` in its first output. -/
theorem array0_2 : (dat0 V O b c).arrAt 2 cfg0.N = x0 V c := by
  refine (dat0 V O b c).arrAt_eq_of_cover 2 (x0 V c) (fun t _ => funext fun y => ?_) cover0_2
  refine (show ∀ y : S1024x4096.Idx, k0_pay1 (blk0 V c 0 t) y = x0 V c (((cfg0.win 2).blk t).view.emb y) from fun y => ?_) y
  obtain ⟨r, n, rfl⟩ : ∃ (r : Fin 1024) (n : Fin 4096), y = at2 r n := ⟨y 0, y 1, (at2_eta (a := 1024) (b := 4096) y).symm⟩
  refine Eq.trans ?_ (congrArg (x0 V c) (emb0_2 t r n)).symm
  exact blk0_0 V c t r n

/-- The gate kernel leaves the logits in its second output. -/
theorem array0_3 : (dat0 V O b c).arrAt 3 cfg0.N = gateOut (x0 V c) (g1 V c) := by
  refine (dat0 V O b c).arrAt_eq_of_cover 3 (gateOut (x0 V c) (g1 V c)) (fun t _ => funext fun y => ?_) cover0_3
  refine (show ∀ y : S1024x8.Idx, k0_pay2 (blk0 V c 0 t) (blk0 V c 1 t) y = gateOut (x0 V c) (g1 V c) (((cfg0.win 3).blk t).view.emb y) from fun y => ?_) y
  obtain ⟨r, n, rfl⟩ : ∃ (r : Fin 1024) (n : Fin 8), y = at2 r n := ⟨y 0, y 1, (at2_eta (a := 1024) (b := 8) y).symm⟩
  refine Eq.trans ?_ (congrArg (gateOut (x0 V c) (g1 V c)) (emb0_3 t r n)).symm
  refine (pay_logits _ _ _ _).trans (Finset.sum_congr rfl fun k _ => congrArg₂ (· * ·) (blk0_0 V c t _ k) (blk0_1 V c t _))

/-! ## The hidden-layer kernel -/

/-- The elements of the input block. -/
theorem pblk2_0 (t : Fin cfg2.N) (r : Fin 1024) (k : Fin 4096) :
    pblk2 V c 0 t (at2 r k : S1024x4096.Idx) = xb V c (at2 ⟨1024 * (t.val % 8) + r.val, by omega⟩ k) :=
  congrArg (xb V c) (emb2_0 t r k)

/-- The hidden-layer kernel leaves the hidden layer in its output. -/
theorem array2_1 : (dat2 V O b c).arrAt 1 cfg2.N = hidden (xb V c) (up1 V c) := by
  refine (dat2 V O b c).arrAt_eq_of_cover 1 (hidden (xb V c) (up1 V c)) (fun t _ => funext fun y => ?_) cover2_1
  refine (show ∀ y : S1024x512.Idx, k2_pay3 (pblk2 V c 0 t) (k2_pay1 ((slab ⟨t.val / 8, div8_lt t⟩).view.read (Elt Ideal) (V c main_arg1))) y
    = hidden (xb V c) (up1 V c) (((cfg2.win 1).blk t).view.emb y) from fun y => ?_) y
  obtain ⟨r, n, rfl⟩ : ∃ (r : Fin 1024) (n : Fin 512), y = at2 r n := ⟨y 0, y 1, (at2_eta (a := 1024) (b := 512) y).symm⟩
  refine Eq.trans ?_ (congrArg (hidden (xb V c) (up1 V c)) (emb2_1 t r n)).symm
  refine (pay_hidden _ _ _ _).trans (congrArg (max · (0 : EReal)) (Finset.sum_congr rfl fun k _ => congrArg₂ (· * ·) (pblk2_0 V c t _ k) ?_))
  exact slab_read c _ (V c main_arg1) _ k

/-! ## The output kernel -/

/-- The elements of the input blocks. -/
theorem blk3_0 (t : Fin cfg3.N) (r : Fin 512) (k : Fin 4096) :
    blk3 V c 0 t (at2 r k : S512x4096.Idx) = h6 V c (at2 ⟨512 * (t.val % 16) + r.val, by omega⟩ k) := congrArg (h6 V c) (emb3_0 t r k)
theorem blk3_1 (t : Fin cfg3.N) (r : Fin 512) (k : Fin 4096) :
    blk3 V c 1 t (at2 r k : S512x4096.Idx) = xb V c (at2 ⟨512 * (t.val % 16) + r.val, by omega⟩ k) := congrArg (xb V c) (emb3_1 t r k)
theorem blk3_2 (t : Fin cfg3.N) (r : Fin 512) :
    blk3 V c 2 t (at2 r 0 : S512x1.Idx) = s5 V c (at2 ⟨512 * (t.val % 16) + r.val, by omega⟩ 0) := congrArg (s5 V c) (emb3_2 t r)

/-- The output kernel's result. -/
theorem array3_3 : (dat3 V O b c).arrAt 3 cfg3.N = outOut (h6 V c) (xb V c) (s5 V c) (down2 V c) (we4 V c) := by
  refine (dat3 V O b c).arrAt_eq_of_cover 3 (outOut (h6 V c) (xb V c) (s5 V c) (down2 V c) (we4 V c)) (fun t _ => funext fun y => ?_) cover3_3
  refine (show ∀ y : S512x512.Idx, k3_pay1 (k3_pay7 (blk3 V c 0 t) (k3_pay2 ((down ⟨t.val / 16, div16_lt t⟩).view.read (Elt Ideal) (V c main_arg2)))) (k3_pay8 (blk3 V c 1 t))
      (k3_pay5 ((expert ⟨t.val / 16, div16_lt t⟩).view.read (Elt Ideal) (V c main_arg4))) (blk3 V c 2 t) y
    = outOut (h6 V c) (xb V c) (s5 V c) (down2 V c) (we4 V c) (((cfg3.win 3).blk t).view.emb y) from fun y => ?_) y
  obtain ⟨r, n, rfl⟩ : ∃ (r : Fin 512) (n : Fin 512), y = at2 r n := ⟨y 0, y 1, (at2_eta (a := 512) (b := 512) y).symm⟩
  refine Eq.trans ?_ (congrArg (outOut (h6 V c) (xb V c) (s5 V c) (down2 V c) (we4 V c)) (emb3_3 t r n)).symm
  refine (pay_out _ _ _ _ _ _).trans (congrArg₂ (· + ·) ((pay_shared _ _ _ _).trans (Finset.sum_congr rfl fun k _ => congrArg₂ (· * ·) (blk3_0 V c t _ k) ?_))
    (congrArg₂ (· * ·) (Finset.sum_congr rfl fun k _ => congrArg₂ (· * ·) (blk3_1 V c t _ k) ?_) (blk3_2 V c t _)))
  · exact down_read c _ (V c main_arg2) _ k
  · exact expert_read c _ (V c main_arg4) k _

end Cert.Proof.Top2
-- ==== Proof.Value.lean ====
/-
  What the kernel leaves in its result, over the extended reals: the problem's result of its arguments.
-/
module

public import proofs.«01_k».proof.Proof.Arrays
public import proofs.«01_k».proof.Proof.Frames

@[expose] public section

noncomputable section

namespace Cert.Proof.Top2

open Cert.KernelIdeal Cert.KernelIdeal.Gen
open Idealize.ShloMosaic
open Idealize.ShloMosaic.TcCoe
open Idealize.ShloMosaic.Pipeline (Dat arrRef withArrays)

variable (m : (ℓ : Loc nD τ sig) → Buf (Elt Ideal) ℓ) (d : Dev nD)

/-- The arguments at the launch, as matrices. -/
abbrev argX : Mat 8192 4096 := m (d, Proc.devRef .tc main_arg0)
abbrev argUp : Mat 4096 4096 := m (d, Proc.devRef .tc main_arg1)
abbrev argDown : Mat 4096 4096 := m (d, Proc.devRef .tc main_arg2)
abbrev argGate : Mat 8 4096 := m (d, Proc.devRef .tc main_arg3)
abbrev argWe : Mat 4096 4096 := m (d, Proc.devRef .tc main_arg4)

/-- The cast gate weights are the gate weights, transposed. -/
theorem gate_at (k : Fin 4096) (e : Fin 8) : g1 (tcOf (W2 m)) d (at2 k e) = argGate m d (at2 e k) := by
  have h1 : W1 m d (Proc.devRef .tc main_v0) = transpose S4096x8 [1, 0] (m (d, Proc.devRef .tc main_arg3)) transposes_S8x4096_S4096x8_1_0 :=
    StableHlo.unary_result' _ _ _ _
  have h2 : W2 m d (Proc.devRef .tc main_v1) = truncf (F := Ideal) .bf16 (W1 m d (Proc.devRef .tc main_v0)) bitsLt_bf16_f32 :=
    StableHlo.unary_result' _ _ _ _
  refine (congrFun h2 _).trans ((congrFun h1 (at2 k e)).trans ?_)
  exact transpose_apply [1, 0] _ transposes_S8x4096_S4096x8_1_0 (at2 k e : S4096x8.Idx) (at2 e k : S8x4096.Idx) fun b => match b with
    | ⟨0, _⟩ => rfl
    | ⟨1, _⟩ => rfl

/-- The gate kernel finds `x` as launched. -/
theorem W2_arg0 : W2 m d (Proc.devRef .tc main_arg0) = m (d, Proc.devRef .tc main_arg0) := by
  rw [W2_ne m d _ (by decide), W1_ne m d _ (by decide)]

/-- After the gate kernel: the cast `x` is `x`. -/
theorem W3_v2_0 : W3 m d (Proc.devRef .tc main_v2_0) = argX m d :=
  (Pipeline.withArrays_arr spec0 arr_inj0 d (W2 m d) (fun w => (dat0 (tcOf (W2 m)) (O0 (F := Ideal)) (8 * 0) d).arrAt w cfg0.N) 2).trans
    ((array0_2 (tcOf (W2 m)) (O0 (F := Ideal)) (8 * 0) d).trans (W2_arg0 m d))

/-- The logits as the gate kernel leaves them. -/
theorem W3_gateOut : W3 m d (Proc.devRef .tc main_v2_1) = gateOut (x0 (tcOf (W2 m)) d) (g1 (tcOf (W2 m)) d) :=
  (Pipeline.withArrays_arr spec0 arr_inj0 d (W2 m d) (fun w => (dat0 (tcOf (W2 m)) (O0 (F := Ideal)) (8 * 0) d).arrAt w cfg0.N) 3).trans
    (array0_3 (tcOf (W2 m)) (O0 (F := Ideal)) (8 * 0) d)

/-- And the logits are the rows of `x` times the rows of the gate weights. -/
theorem W3_v2_1 (r : Fin 8192) (e : Fin 8) : (W3 m d (Proc.devRef .tc main_v2_1) : Mat 8192 8) (at2 r e) = dotRows (argX m d) (argGate m d) r e := by
  refine (congrFun (W3_gateOut m d) (at2 r e)).trans ?_
  show ∑ k : Fin 4096, x0 (tcOf (W2 m)) d (at2 r k) * g1 (tcOf (W2 m)) d (at2 k e) = _
  exact Finset.sum_congr rfl fun k _ => congrArg₂ (· * ·) (congrFun (W2_arg0 m d) (at2 r k)) (gate_at m d k e)

/-- The SparseCore call is handed the logits, transposed. -/
theorem logits_at (e : Fin 8) (r : Fin 8192) : (logits m d : Mat 8 8192) (at2 e r) = dotRows (argX m d) (argGate m d) r e := by
  have h4 : W4 m d (Proc.devRef .tc main_v3) = transpose S8x8192 [1, 0] (W3 m d (Proc.devRef .tc main_v2_1)) transposes_S8192x8_S8x8192_1_0 :=
    StableHlo.unary_result' _ _ _ _
  refine (congrFun h4 (at2 e r)).trans (Eq.trans ?_ (W3_v2_1 m d r e))
  exact transpose_apply [1, 0] _ transposes_S8192x8_S8x8192_1_0 (at2 e r : S8x8192.Idx) (at2 r e : S8192x8.Idx) fun b => match b with
    | ⟨0, _⟩ => rfl
    | ⟨1, _⟩ => rfl

/-- The SparseCore call leaves the routing weights, as a row. -/
theorem sums_at (r : Fin 8192) : (W5 m d (Proc.devRef .tc main_v4) : Mat 1 8192) (at2 0 r) = weight (argX m d) (argGate m d) r := by
  have h5 : W5 m d (Proc.devRef .tc main_v4) = (rowTop2 (F := Ideal) (n := 8192) (logits m d) : Buf (Elt Ideal) (oLoc d)) := by
    unfold W5; exact Function.update_self _ _ _
  refine (congrFun h5 (at2 0 r)).trans ?_
  exact congrArg (top2 (F := Ideal)) (funext fun e => logits_at m d e r)

/-- The output kernel is handed the routing weights, as a column. -/
theorem column_at (r : Fin 8192) : (W6 m d (Proc.devRef .tc main_v5) : Mat 8192 1) (at2 r 0) = weight (argX m d) (argGate m d) r := by
  have h6 : W6 m d (Proc.devRef .tc main_v5) = shapeCast S8192x1 (W5 m d (Proc.devRef .tc main_v4)) shapeCasts_S1x8192_S8192x1 :=
    StableHlo.reshape_result' _ _ _ _ _
  refine (congrFun h6 (at2 r 0)).trans (Eq.trans ?_ (sums_at m d r))
  refine shapeCast_apply _ shapeCasts_S1x8192_S8192x1 (at2 r 0 : S8192x1.Idx) (at2 0 r : S1x8192.Idx) ?_
  rw [Shape.rowMajor_val_two, Shape.rowMajor_val_two]
  show 0 * 8192 + r.val = r.val * 1 + 0
  omega

/-- The hidden-layer kernel finds `x`. -/
theorem W6_v2_0 : W6 m d (Proc.devRef .tc main_v2_0) = argX m d := by
  rw [W6_ne m d _ (by decide), W5_ne m d _ (by decide), W4_ne m d _ (by decide), W3_v2_0]

/-- And the up weights. -/
theorem W6_arg1 : W6 m d (Proc.devRef .tc main_arg1) = argUp m d := by
  rw [W6_ne m d _ (by decide), W5_ne m d _ (by decide), W4_ne m d _ (by decide), W3_ne m d _ (by decide), W2_ne m d _ (by decide), W1_ne m d _ (by decide)]

/-- The hidden-layer kernel leaves the hidden layer. -/
theorem W7_v6 : W7 m d (Proc.devRef .tc main_v6) = hidden (argX m d) (argUp m d) :=
  (Pipeline.withArrays_arr spec2 arr_inj2 d (W6 m d) (fun w => (dat2 (tcOf (W6 m)) (O1 (F := Ideal)) (8 * 1) d).arrAt w cfg2.N) 1).trans
    ((array2_1 (tcOf (W6 m)) (O1 (F := Ideal)) (8 * 1) d).trans (congrArg₂ hidden (W6_v2_0 m d) (W6_arg1 m d)))

/-- And leaves `x` as it was. -/
theorem W7_v2_0 : W7 m d (Proc.devRef .tc main_v2_0) = argX m d :=
  (Pipeline.withArrays_arr spec2 arr_inj2 d (W6 m d) (fun w => (dat2 (tcOf (W6 m)) (O1 (F := Ideal)) (8 * 1) d).arrAt w cfg2.N) 0).trans
    (((dat2 (tcOf (W6 m)) (O1 (F := Ideal)) (8 * 1) d).arrAt_in (w := 0) rfl cfg2.N).trans (W6_v2_0 m d))

/-- The kernel's result is the problem's. -/
theorem W8_v7 : W8 m d (Proc.devRef .tc main_v7) = result (argX m d) (argUp m d) (argDown m d) (argGate m d) (argWe m d) := by
  refine (Pipeline.withArrays_arr spec3 arr_inj3 d (W7 m d) (fun w => (dat3 (tcOf (W7 m)) (O1 (F := Ideal)) (8 * 1) d).arrAt w cfg3.N) 3).trans
    ((array3_3 (tcOf (W7 m)) (O1 (F := Ideal)) (8 * 1) d).trans ?_)
  rw [show h6 (tcOf (W7 m)) d = hidden (argX m d) (argUp m d) from W7_v6 m d, show xb (tcOf (W7 m)) d = argX m d from W7_v2_0 m d,
    show down2 (tcOf (W7 m)) d = argDown m d from W7_arg2 m d, show we4 (tcOf (W7 m)) d = argWe m d from W7_arg4 m d]
  funext i
  refine congrArg (_ + · : EReal → EReal) (congrArg (_ * · : EReal → EReal) ?_)
  refine Eq.trans ?_ (column_at m d (i 0))
  exact congrFun (W7_ne m d main_v5 (by decide)) (at2 (i 0) 0)

end Cert.Proof.Top2
-- ==== Proof.SameText.lean ====
/-
  The kernel's program and its idealization have one text, so their tables of bodies and their threads are equal: a run of
  the one is a run of the other.
-/
module

public import proofs.«01_k».proof.Defs
public import proofs.«01_k».proof.Proof.Gen.Kernel
public import proofs.«01_k».proof.Proof.Gen.KernelIdeal

@[expose] public section

noncomputable section

namespace Cert.Proof.SameText

open Idealize.ShloMosaic Idealize.SL.Sem

set_option backward.isDefEq.respectTransparency.types false

set_option maxHeartbeats 4000000 in
/-- The kernels' bodies are equal, thread by thread and label by label. -/
theorem bodies_eq : @Cert.Kernel.defs₀ Bits _ Cert.Kernel.Gen.facts = @Cert.KernelIdeal.defs₀ Bits _ Cert.KernelIdeal.Gen.facts := by
  funext p l a
  match p, l, a with
  | .tc, 0, a => rfl
  | .tc, 1, a => rfl
  | .tc, 2, a => rfl
  | .tc, 3, a => rfl
  | .scVector c s, 0, a => rfl
  | .scVector c s, 1, a => rfl
  | .scVector c s, 2, a => rfl
  | .scVector c s, 3, a => rfl
  | .scScalar c, 0, a => rfl
  | .scScalar c, 1, a => rfl
  | .scScalar c, 2, a => rfl
  | .scScalar c, 3, a => rfl

/-- So are the tables the launch runs. -/
theorem defs_eq : @Cert.Kernel.defs Bits _ Cert.Kernel.Gen.facts = @Cert.KernelIdeal.defs Bits _ Cert.KernelIdeal.Gen.facts :=
  congrArg (fun D => (Cert.KernelIdeal.sc (F := Bits)).defs (Pipeline.defs Cert.KernelIdeal.pcfgs D)) bodies_eq

/-- So are the threads. -/
theorem threads_eq : @Cert.Kernel.threads Bits _ Cert.Kernel.Gen.facts = @Cert.KernelIdeal.threads Bits _ Cert.KernelIdeal.Gen.facts := rfl

end Cert.Proof.SameText
-- ==== Proof.lean ====
/-
  The proof of `Cert.Claim`: both programs run to the end from every memory, leave their arguments unchanged and every
  counter at zero, and at the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import proofs.«01_k».proof.Proof.SameText
public import Idealize.ShloMosaic.Lib.Quiescent
public import Idealize.ShloMosaic.Adequacy
public import Idealize.ShloMosaic.Init

@[expose] public section

noncomputable section

namespace Cert.Proof

open Idealize.ShloMosaic Idealize.SL.Sem

/-- Every float value type of the bit patterns is inhabited. -/
instance : ∀ e, Nonempty (Elt Bits e) := by intro e; cases e <;> exact ⟨0⟩
/-- So is every one of the extended reals. -/
instance : ∀ e, Nonempty (Elt Ideal e) := by intro e; cases e <;> exact ⟨0⟩

set_option backward.isDefEq.respectTransparency.types false in
/-- The kernel runs, its arguments unchanged and its counters at zero. -/
theorem frame_kernel : Cert.quiescent_Kernel (hKernel := Cert.Kernel.Gen.facts) := by
  intro m g _
  rw [SameText.defs_eq, SameText.threads_eq]
  exact (θ_run Cert.KernelIdeal.defs _ _).mono (fun _ h => ⟨fun c => (h.1 c).2, h.2⟩) (Top2.run_args (F := Bits) m g)

/-- So does its idealization. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Top2.run_args (F := Ideal) m g)

/-- The reference runs, its arguments unchanged; it has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result, over the extended reals, as a buffer of the device's. -/
def kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v7) :=
  Top2.result (Top2.argX m c) (Top2.argUp m c) (Top2.argDown m c) (Top2.argGate m c) (Top2.argWe m c)

/-- Over the extended reals, from equal arguments, the kernel and the reference end with equal results. -/
theorem value : Cert.algebraic_KernelIdeal_ReferenceIdeal (hKernelIdeal := Cert.KernelIdeal.Gen.facts) (hReferenceIdeal := Cert.ReferenceIdeal.Gen.facts) := by
  intro m g m' g' _ h
  refine ⟨kernelResult m, (θ_run Cert.KernelIdeal.defs _ _).mono (fun _ h => fun c => ⟨(h.1 c).1.trans (Top2.W8_v7 m c), (h.1 c).2⟩) (Top2.run_args (F := Ideal) m g),
    (θ_run Cert.ReferenceIdeal.defs _ _).mono (fun r hr => fun c => ⟨?_, (hr c).2⟩) (Cert.ReferenceIdeal.Value.run (F := Ideal) m' g')⟩
  refine (hr c).1.trans ((Cert.ReferenceIdeal.Read.val_main_v12_eq (F := Ideal) _ _ _ _ _).trans ?_)
  rw [(h c).1, (h c).2.1, (h c).2.2.1, (h c).2.2.2.1, (h c).2.2.2.2]
  exact Top2.ref_result _ _ _ _ _

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
